-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_ok [hPre_scales_ok : Cert.Pre_scales_ok.Facts] (m : (ℓ : Loc Cert.KernelIdeal.nD Cert.KernelIdeal.τ Cert.KernelIdeal.sig) → Buf (Elt Ideal) ℓ) : Prop :=
  ∀ c : Dev Cert.KernelIdeal.nD,
    (Cert.Pre_scales_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_ok [hPre_scales_ok : Cert.Pre_scales_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scales_ok [hKernelIdeal : Cert.KernelIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scales_ok [hReferenceIdeal : Cert.ReferenceIdeal.Facts] [hPre_scales_ok : Cert.Pre_scales_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_scales_ok [hKernelIdeal : Cert.KernelIdeal.Facts] [hReferenceIdeal : Cert.ReferenceIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scales_ok : Cert.Pre_scales_ok.Facts),
    quiescent_Kernel (hKernel := hKernel)
    ∧ quiescent_KernelIdeal (hKernelIdeal := hKernelIdeal)
    ∧ quiescent_KernelIdeal_pre_scales_ok (hKernelIdeal := hKernelIdeal) (hPre_scales_ok := hPre_scales_ok)
    ∧ quiescent_ReferenceIdeal (hReferenceIdeal := hReferenceIdeal)
    ∧ quiescent_ReferenceIdeal_pre_scales_ok (hReferenceIdeal := hReferenceIdeal) (hPre_scales_ok := hPre_scales_ok)
    ∧ preserves_Kernel_KernelIdeal
    ∧ algebraic_KernelIdeal_ReferenceIdeal_pre_scales_ok (hKernelIdeal := hKernelIdeal) (hReferenceIdeal := hReferenceIdeal) (hPre_scales_ok := hPre_scales_ok)
-- ==== Pre_scales_ok.lean ====
abbrev S8192x4608 : Shape := ⟨2, ![8192, 4608]⟩
abbrev S32x8192 : Shape := ⟨2, ![32, 8192]⟩
abbrev S4608x36864 : Shape := ⟨2, ![4608, 36864]⟩
abbrev S18x144 : Shape := ⟨2, ![18, 144]⟩
abbrev S18x8192 : Shape := ⟨2, ![18, 8192]⟩
abbrev S_ : Shape := ⟨0, ![]⟩

class Facts : Prop where
  slices_S32x8192_S18x8192_0_0 : S32x8192.Slices ![0, 0] S18x8192
  bcast_S_S18x8192 : S_.BroadcastsInDim S18x8192 (![] : Fin 0 → Fin S18x8192.rank)
  reducesTo_S18x8192_S_d0_1 : S18x8192.ReducesTo [0, 1] S_
  h_S_ : 0 < S_.numel
  bcast_S_S18x144 : S_.BroadcastsInDim S18x144 (![] : Fin 0 → Fin S18x144.rank)
  reducesTo_S18x144_S_d0_1 : S18x144.ReducesTo [0, 1] S_

variable [Facts]

def fn {F : FTy → Type} [FloatOps F] (main_arg0 : FVec F S8192x4608 .fp8e4m3) (main_arg1 : FVec F S32x8192 .f32) (main_arg2 : FVec F S4608x36864 .fp8e4m3) (main_arg3 : FVec F S18x144 .f32) : IVec S_ 1 :=
  let main_v0 : FVec F S18x8192 .f32 := (extractStridedSlice S18x8192 ![0, 0] · slices_S32x8192_S18x8192_0_0) main_arg1
  let main_cst : FVec F S_ .f32 := constant S_ .f32 0x00000000#32
  let main_v1 : FVec F S18x8192 .f32 := broadcastInDim S18x8192 ![] bcast_S_S18x8192 main_cst
  let main_v2 : IVec S18x8192 1 := cmpf .oge main_v0 main_v1
  let main_cst_0 : FVec F S_ .f32 := constant S_ .f32 0x7F800000#32
  let main_v3 : FVec F S18x8192 .f32 := broadcastInDim S18x8192 ![] bcast_S_S18x8192 main_cst_0
  let main_v4 : IVec S18x8192 1 := cmpf .olt main_v0 main_v3
  let main_v5 : IVec S18x8192 1 := andi main_v2 main_v4
  let main_c : IVec S_ 1 := constantI S_ 1 1#1
  let main_v6 : IVec S_ 1 := (fun x v => Host.reduce IntOp.andi x v reducesTo_S18x8192_S_d0_1 h_S_) main_v5 main_c
  let main_cst_1 : FVec F S_ .f32 := constant S_ .f32 0x00000000#32
  let main_v7 : FVec F S18x144 .f32 := broadcastInDim S18x144 ![] bcast_S_S18x144 main_cst_1
  let main_v8 : IVec S18x144 1 := cmpf .oge main_arg3 main_v7
  let main_cst_2 : FVec F S_ .f32 := constant S_ .f32 0x7F800000#32
  let main_v9 : FVec F S18x144 .f32 := broadcastInDim S18x144 ![] bcast_S_S18x144 main_cst_2
  let main_v10 : IVec S18x144 1 := cmpf .olt main_arg3 main_v9
  let main_v11 : IVec S18x144 1 := andi main_v8 main_v10
  let main_c_3 : IVec S_ 1 := constantI S_ 1 1#1
  let main_v12 : IVec S_ 1 := (fun x v => Host.reduce IntOp.andi x v reducesTo_S18x144_S_d0_1 h_S_) main_v11 main_c_3
  let main_v13 : IVec S_ 1 := andi main_v6 main_v12
  main_v13
-- ==== Kernel.lean ====
abbrev S8192x4608 : Shape := ⟨2, ![8192, 4608]⟩
abbrev S32x8192 : Shape := ⟨2, ![32, 8192]⟩
abbrev S4608x36864 : Shape := ⟨2, ![4608, 36864]⟩
abbrev S18x144 : Shape := ⟨2, ![18, 144]⟩
abbrev S8192x36864 : Shape := ⟨2, ![8192, 36864]⟩
abbrev S512x4608 : Shape := ⟨2, ![512, 4608]⟩
abbrev S32x512 : Shape := ⟨2, ![32, 512]⟩
abbrev S4608x2048 : Shape := ⟨2, ![4608, 2048]⟩
abbrev S512x2048 : Shape := ⟨2, ![512, 2048]⟩
abbrev S2048x4608 : Shape := ⟨2, ![2048, 4608]⟩
abbrev S512x256 : Shape := ⟨2, ![512, 256]⟩
abbrev S256x256 : Shape := ⟨2, ![256, 256]⟩
abbrev S32x256 : Shape := ⟨2, ![32, 256]⟩
abbrev S1x256 : Shape := ⟨2, ![1, 256]⟩
abbrev S1x1 : Shape := ⟨2, ![1, 1]⟩
abbrev S128x128 : Shape := ⟨2, ![128, 128]⟩

abbrev nBuf : Space → Nat
  | .hbm => 5
  | .vmem => 11
  | .smem => 1
  | _ => 0

abbrev bufTy : (tb : Table) → Fin (tcTables nBuf tb) → BufTy
  | .hbm, ⟨0, _⟩ => ⟨S8192x4608, .fp8e4m3⟩
  | .hbm, ⟨1, _⟩ => ⟨S32x8192, .f32⟩
  | .hbm, ⟨2, _⟩ => ⟨S4608x36864, .fp8e4m3⟩
  | .hbm, ⟨3, _⟩ => ⟨S18x144, .f32⟩
  | .hbm, ⟨4, _⟩ => ⟨S8192x36864, .bf16⟩
  | .local _ .vmem, ⟨0, _⟩ => ⟨S512x4608, .fp8e4m3⟩
  | .local _ .vmem, ⟨1, _⟩ => ⟨S512x4608, .fp8e4m3⟩
  | .local _ .vmem, ⟨2, _⟩ => ⟨S32x512, .f32⟩
  | .local _ .vmem, ⟨3, _⟩ => ⟨S32x512, .f32⟩
  | .local _ .vmem, ⟨4, _⟩ => ⟨S4608x2048, .fp8e4m3⟩
  | .local _ .vmem, ⟨5, _⟩ => ⟨S4608x2048, .fp8e4m3⟩
  | .local _ .vmem, ⟨6, _⟩ => ⟨S512x2048, .bf16⟩
  | .local _ .vmem, ⟨7, _⟩ => ⟨S512x2048, .bf16⟩
  | .local _ .vmem, ⟨8, _⟩ => ⟨S2048x4608, .fp8e4m3⟩
  | .local _ .vmem, ⟨9, _⟩ => ⟨S512x256, .f32⟩
  | .local _ .vmem, ⟨10, _⟩ => ⟨S512x256, .bf16⟩
  | .local _ .smem, ⟨0, _⟩ => ⟨S18x144, .f32⟩
  | _, _ => ⟨S8192x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![18, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1 : BitVec 32 := 0#32
  let c144_i32 : BitVec 32 := 144#32
  let v3 : BitVec 32 := Scalar.addi c0_i32_1 c144_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c0_i32_3 : BitVec 32 := 0#32
  let v5 : BitVec 1 := Scalar.cmpi .sgt arg10 c0_i32_3
  let v6 : BitVec 32 := Scalar.extui v5
  let c0_i32_4 : BitVec 32 := 0#32
  let v7 : BitVec 1 := Scalar.cmpi .slt arg10 c0_i32_4
  let v8 : BitVec 32 := Scalar.extui v7
  let v9 : BitVec 32 := Scalar.subi v6 v8
  let c8_i32 : BitVec 32 := 8#32
  let c0_i32_5 : BitVec 32 := 0#32
  let v10 : BitVec 1 := Scalar.cmpi .sgt c8_i32 c0_i32_5
  let v11 : BitVec 32 := Scalar.extui v10
  let c0_i32_6 : BitVec 32 := 0#32
  let v12 : BitVec 1 := Scalar.cmpi .slt c8_i32 c0_i32_6
  let v13 : BitVec 32 := Scalar.extui v12
  let v14 : BitVec 32 := Scalar.subi v11 v13
  let v15 : BitVec 1 := Scalar.cmpi .ne v9 v14
  let v16 : BitVec 32 := Scalar.remsi arg10 c8_i32
  let c0_i32_7 : BitVec 32 := 0#32
  let v17 : BitVec 1 := Scalar.cmpi .ne v16 c0_i32_7
  let v18 : BitVec 1 := Scalar.andi v15 v17
  let v4 : BitVec 32 := Scalar.divsi arg10 c8_i32
  let c1_i32_8 : BitVec 32 := 1#32
  let v19 : BitVec 32 := Scalar.subi v4 c1_i32_8
  let v20 : BitVec 32 := Scalar.select v18 v19 v4
  let c256_i32 : BitVec 32 := 256#32
  let v21 : BitVec 32 := Scalar.muli v20 c256_i32
  v21
def k0_mult2 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c8_i32_9 : BitVec 32 := 8#32
  let c0_i32_10 : BitVec 32 := 0#32
  let v23 : BitVec 1 := Scalar.cmpi .eq c8_i32_9 c0_i32_10
  let c1_i32_11 : BitVec 32 := 1#32
  let v24 : BitVec 32 := Scalar.select v23 c1_i32_11 c8_i32_9
  let v25 : BitVec 32 := Scalar.remsi arg10 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c256_i32_15 : BitVec 32 := 256#32
  let v33 : BitVec 32 := Scalar.muli v32 c256_i32_15
  v33
def k0_off1 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c0_i32_3 : BitVec 32 := 0#32
  let v5 : BitVec 1 := Scalar.cmpi .sgt arg10 c0_i32_3
  let v6 : BitVec 32 := Scalar.extui v5
  let c0_i32_4 : BitVec 32 := 0#32
  let v7 : BitVec 1 := Scalar.cmpi .slt arg10 c0_i32_4
  let v8 : BitVec 32 := Scalar.extui v7
  let v9 : BitVec 32 := Scalar.subi v6 v8
  let c8_i32 : BitVec 32 := 8#32
  let c0_i32_5 : BitVec 32 := 0#32
  let v10 : BitVec 1 := Scalar.cmpi .sgt c8_i32 c0_i32_5
  let v11 : BitVec 32 := Scalar.extui v10
  let c0_i32_6 : BitVec 32 := 0#32
  let v12 : BitVec 1 := Scalar.cmpi .slt c8_i32 c0_i32_6
  let v13 : BitVec 32 := Scalar.extui v12
  let v14 : BitVec 32 := Scalar.subi v11 v13
  let v15 : BitVec 1 := Scalar.cmpi .ne v9 v14
  let v16 : BitVec 32 := Scalar.remsi arg10 c8_i32
  let c0_i32_7 : BitVec 32 := 0#32
  let v17 : BitVec 1 := Scalar.cmpi .ne v16 c0_i32_7
  let v18 : BitVec 1 := Scalar.andi v15 v17
  let v4 : BitVec 32 := Scalar.divsi arg10 c8_i32
  let c1_i32_8 : BitVec 32 := 1#32
  let v19 : BitVec 32 := Scalar.subi v4 c1_i32_8
  let v20 : BitVec 32 := Scalar.select v18 v19 v4
  let c256_i32 : BitVec 32 := 256#32
  let v21 : BitVec 32 := Scalar.muli v20 c256_i32
  let v22 : BitVec 32 := v21
  let v35 : Index := Scalar.indexCast v22
  let c8_i32_9 : BitVec 32 := 8#32
  let c0_i32_10 : BitVec 32 := 0#32
  let v23 : BitVec 1 := Scalar.cmpi .eq c8_i32_9 c0_i32_10
  let c1_i32_11 : BitVec 32 := 1#32
  let v24 : BitVec 32 := Scalar.select v23 c1_i32_11 c8_i32_9
  let v25 : BitVec 32 := Scalar.remsi arg10 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c256_i32_15 : BitVec 32 := 256#32
  let v33 : BitVec 32 := Scalar.muli v32 c256_i32_15
  let v34 : BitVec 32 := v33
  let v36 : Index := Scalar.indexCast v34
  ![v35.toNat, v36.toNat]
def k0_off2 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c8_i32_9 : BitVec 32 := 8#32
  let c0_i32_10 : BitVec 32 := 0#32
  let v23 : BitVec 1 := Scalar.cmpi .eq c8_i32_9 c0_i32_10
  let c1_i32_11 : BitVec 32 := 1#32
  let v24 : BitVec 32 := Scalar.select v23 c1_i32_11 c8_i32_9
  let v25 : BitVec 32 := Scalar.remsi arg10 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c256_i32_15 : BitVec 32 := 256#32
  let v33 : BitVec 32 := Scalar.muli v32 c256_i32_15
  let v34 : BitVec 32 := v33
  let v41 : Index := Scalar.indexCast v34
  let c0_i32_3 : BitVec 32 := 0#32
  let v5 : BitVec 1 := Scalar.cmpi .sgt arg10 c0_i32_3
  let v6 : BitVec 32 := Scalar.extui v5
  let c0_i32_4 : BitVec 32 := 0#32
  let v7 : BitVec 1 := Scalar.cmpi .slt arg10 c0_i32_4
  let v8 : BitVec 32 := Scalar.extui v7
  let v9 : BitVec 32 := Scalar.subi v6 v8
  let c8_i32 : BitVec 32 := 8#32
  let c0_i32_5 : BitVec 32 := 0#32
  let v10 : BitVec 1 := Scalar.cmpi .sgt c8_i32 c0_i32_5
  let v11 : BitVec 32 := Scalar.extui v10
  let c0_i32_6 : BitVec 32 := 0#32
  let v12 : BitVec 1 := Scalar.cmpi .slt c8_i32 c0_i32_6
  let v13 : BitVec 32 := Scalar.extui v12
  let v14 : BitVec 32 := Scalar.subi v11 v13
  let v15 : BitVec 1 := Scalar.cmpi .ne v9 v14
  let v16 : BitVec 32 := Scalar.remsi arg10 c8_i32
  let c0_i32_7 : BitVec 32 := 0#32
  let v17 : BitVec 1 := Scalar.cmpi .ne v16 c0_i32_7
  let v18 : BitVec 1 := Scalar.andi v15 v17
  let v4 : BitVec 32 := Scalar.divsi arg10 c8_i32
  let c1_i32_8 : BitVec 32 := 1#32
  let v19 : BitVec 32 := Scalar.subi v4 c1_i32_8
  let v20 : BitVec 32 := Scalar.select v18 v19 v4
  let c256_i32 : BitVec 32 := 256#32
  let v21 : BitVec 32 := Scalar.muli v20 c256_i32
  let v22 : BitVec 32 := v21
  let v42 : Index := Scalar.indexCast v22
  ![v41.toNat, v42.toNat]
def k0_off3 (i : grid0.Coords) (c0_i32_55_r0 : BitVec 32) (c0_i32_56_r0 : BitVec 32) : Fin 2 → Nat :=
  let c0_59_r0 : Index := 0#32
  let arg0 : BitVec 32 := BitVec.ofNat 32 (i 0).val
  let c8_i32_r0 : BitVec 32 := 8#32
  let v75_r0 : BitVec 32 := Scalar.muli arg0 c8_i32_r0
  let v76_r0 : BitVec 32 := Scalar.addi v75_r0 c0_i32_55_r0
  let v77_r0 : BitVec 32 := Scalar.addi v76_r0 c0_i32_56_r0
  let v79_r0 : Index := Scalar.indexCast v77_r0
  ![0, v79_r0.toNat]
def k0_off4 (i : grid0.Coords) (c0_i32_55_r0 : BitVec 32) (c0_i32_56_r0 : BitVec 32) : Fin 2 → Nat :=
  let c1_61_r0 : Index := 1#32
  let arg0 : BitVec 32 := BitVec.ofNat 32 (i 0).val
  let c8_i32_r0 : BitVec 32 := 8#32
  let v75_r0 : BitVec 32 := Scalar.muli arg0 c8_i32_r0
  let v76_r0 : BitVec 32 := Scalar.addi v75_r0 c0_i32_55_r0
  let v77_r0 : BitVec 32 := Scalar.addi v76_r0 c0_i32_56_r0
  let v84_r0 : Index := Scalar.indexCast v77_r0
  ![1, v84_r0.toNat]
def k0_off5 (i : grid0.Coords) (c0_i32_169_r0 : BitVec 32) (c0_i32_170_r0 : BitVec 32) : Fin 2 → Nat :=
  let c2_172_r0 : Index := 2#32
  let arg0 : BitVec 32 := BitVec.ofNat 32 (i 0).val
  let c8_i32_168_r0 : BitVec 32 := 8#32
  let v329_r0 : BitVec 32 := Scalar.muli arg0 c8_i32_168_r0
  let v330_r0 : BitVec 32 := Scalar.addi v329_r0 c0_i32_169_r0
  let v331_r0 : BitVec 32 := Scalar.addi v330_r0 c0_i32_170_r0
  let v333_r0 : Index := Scalar.indexCast v331_r0
  ![2, v333_r0.toNat]
def k0_off6 (i : grid0.Coords) (c0_i32_169_r0 : BitVec 32) (c0_i32_170_r0 : BitVec 32) : Fin 2 → Nat :=
  let c3_174_r0 : Index := 3#32
  let arg0 : BitVec 32 := BitVec.ofNat 32 (i 0).val
  let c8_i32_168_r0 : BitVec 32 := 8#32
  let v329_r0 : BitVec 32 := Scalar.muli arg0 c8_i32_168_r0
  let v330_r0 : BitVec 32 := Scalar.addi v329_r0 c0_i32_169_r0
  let v331_r0 : BitVec 32 := Scalar.addi v330_r0 c0_i32_170_r0
  let v338_r0 : Index := Scalar.indexCast v331_r0
  ![3, v338_r0.toNat]
def k0_off7 (i : grid0.Coords) (c0_i32_315_r0 : BitVec 32) (c0_i32_316_r0 : BitVec 32) : Fin 2 → Nat :=
  let c4_318_r0 : Index := 4#32
  let arg0 : BitVec 32 := BitVec.ofNat 32 (i 0).val
  let c8_i32_314_r0 : BitVec 32 := 8#32
  let v615_r0 : BitVec 32 := Scalar.muli arg0 c8_i32_314_r0
  let v616_r0 : BitVec 32 := Scalar.addi v615_r0 c0_i32_315_r0
  let v617_r0 : BitVec 32 := Scalar.addi v616_r0 c0_i32_316_r0
  let v619_r0 : Index := Scalar.indexCast v617_r0
  ![4, v619_r0.toNat]
def k0_off8 (i : grid0.Coords) (c0_i32_315_r0 : BitVec 32) (c0_i32_316_r0 : BitVec 32) : Fin 2 → Nat :=
  let c5_320_r0 : Index := 5#32
  let arg0 : BitVec 32 := BitVec.ofNat 32 (i 0).val
  let c8_i32_314_r0 : BitVec 32 := 8#32
  let v615_r0 : BitVec 32 := Scalar.muli arg0 c8_i32_314_r0
  let v616_r0 : BitVec 32 := Scalar.addi v615_r0 c0_i32_315_r0
  let v617_r0 : BitVec 32 := Scalar.addi v616_r0 c0_i32_316_r0
  let v624_r0 : Index := Scalar.indexCast v617_r0
  ![5, v624_r0.toNat]
def k0_off9 (i : grid0.Coords) (c0_i32_461_r0 : BitVec 32) (c0_i32_462_r0 : BitVec 32) : Fin 2 → Nat :=
  let c6_464_r0 : Index := 6#32
  let arg0 : BitVec 32 := BitVec.ofNat 32 (i 0).val
  let c8_i32_460_r0 : BitVec 32 := 8#32
  let v901_r0 : BitVec 32 := Scalar.muli arg0 c8_i32_460_r0
  let v902_r0 : BitVec 32 := Scalar.addi v901_r0 c0_i32_461_r0
  let v903_r0 : BitVec 32 := Scalar.addi v902_r0 c0_i32_462_r0
  let v905_r0 : Index := Scalar.indexCast v903_r0
  ![6, v905_r0.toNat]
def k0_off10 (i : grid0.Coords) (c0_i32_461_r0 : BitVec 32) (c0_i32_462_r0 : BitVec 32) : Fin 2 → Nat :=
  let c7_466_r0 : Index := 7#32
  let arg0 : BitVec 32 := BitVec.ofNat 32 (i 0).val
  let c8_i32_460_r0 : BitVec 32 := 8#32
  let v901_r0 : BitVec 32 := Scalar.muli arg0 c8_i32_460_r0
  let v902_r0 : BitVec 32 := Scalar.addi v901_r0 c0_i32_461_r0
  let v903_r0 : BitVec 32 := Scalar.addi v902_r0 c0_i32_462_r0
  let v910_r0 : Index := Scalar.indexCast v903_r0
  ![7, v910_r0.toNat]
def k0_off11 (i : grid0.Coords) (c0_i32_607_r0 : BitVec 32) (c0_i32_608_r0 : BitVec 32) : Fin 2 → Nat :=
  let c8_610_r0 : Index := 8#32
  let arg0 : BitVec 32 := BitVec.ofNat 32 (i 0).val
  let c8_i32_606_r0 : BitVec 32 := 8#32
  let v1187_r0 : BitVec 32 := Scalar.muli arg0 c8_i32_606_r0
  let v1188_r0 : BitVec 32 := Scalar.addi v1187_r0 c0_i32_607_r0
  let v1189_r0 : BitVec 32 := Scalar.addi v1188_r0 c0_i32_608_r0
  let v1191_r0 : Index := Scalar.indexCast v1189_r0
  ![8, v1191_r0.toNat]
def k0_off12 (i : grid0.Coords) (c0_i32_607_r0 : BitVec 32) (c0_i32_608_r0 : BitVec 32) : Fin 2 → Nat :=
  let c9_612_r0 : Index := 9#32
  let arg0 : BitVec 32 := BitVec.ofNat 32 (i 0).val
  let c8_i32_606_r0 : BitVec 32 := 8#32
  let v1187_r0 : BitVec 32 := Scalar.muli arg0 c8_i32_606_r0
  let v1188_r0 : BitVec 32 := Scalar.addi v1187_r0 c0_i32_607_r0
  let v1189_r0 : BitVec 32 := Scalar.addi v1188_r0 c0_i32_608_r0
  let v1196_r0 : Index := Scalar.indexCast v1189_r0
  ![9, v1196_r0.toNat]
def k0_off13 (i : grid0.Coords) (c0_i32_753_r0 : BitVec 32) (c0_i32_754_r0 : BitVec 32) : Fin 2 → Nat :=
  let c10_756_r0 : Index := 10#32
  let arg0 : BitVec 32 := BitVec.ofNat 32 (i 0).val
  let c8_i32_752_r0 : BitVec 32 := 8#32
  let v1473_r0 : BitVec 32 := Scalar.muli arg0 c8_i32_752_r0
  let v1474_r0 : BitVec 32 := Scalar.addi v1473_r0 c0_i32_753_r0
  let v1475_r0 : BitVec 32 := Scalar.addi v1474_r0 c0_i32_754_r0
  let v1477_r0 : Index := Scalar.indexCast v1475_r0
  ![10, v1477_r0.toNat]
def k0_off14 (i : grid0.Coords) (c0_i32_753_r0 : BitVec 32) (c0_i32_754_r0 : BitVec 32) : Fin 2 → Nat :=
  let c11_758_r0 : Index := 11#32
  let arg0 : BitVec 32 := BitVec.ofNat 32 (i 0).val
  let c8_i32_752_r0 : BitVec 32 := 8#32
  let v1473_r0 : BitVec 32 := Scalar.muli arg0 c8_i32_752_r0
  let v1474_r0 : BitVec 32 := Scalar.addi v1473_r0 c0_i32_753_r0
  let v1475_r0 : BitVec 32 := Scalar.addi v1474_r0 c0_i32_754_r0
  let v1482_r0 : Index := Scalar.indexCast v1475_r0
  ![11, v1482_r0.toNat]
def k0_off15 (i : grid0.Coords) (c0_i32_899_r0 : BitVec 32) (c0_i32_900_r0 : BitVec 32) : Fin 2 → Nat :=
  let c12_902_r0 : Index := 12#32
  let arg0 : BitVec 32 := BitVec.ofNat 32 (i 0).val
  let c8_i32_898_r0 : BitVec 32 := 8#32
  let v1759_r0 : BitVec 32 := Scalar.muli arg0 c8_i32_898_r0
  let v1760_r0 : BitVec 32 := Scalar.addi v1759_r0 c0_i32_899_r0
  let v1761_r0 : BitVec 32 := Scalar.addi v1760_r0 c0_i32_900_r0
  let v1763_r0 : Index := Scalar.indexCast v1761_r0
  ![12, v1763_r0.toNat]
def k0_off16 (i : grid0.Coords) (c0_i32_899_r0 : BitVec 32) (c0_i32_900_r0 : BitVec 32) : Fin 2 → Nat :=
  let c13_904_r0 : Index := 13#32
  let arg0 : BitVec 32 := BitVec.ofNat 32 (i 0).val
  let c8_i32_898_r0 : BitVec 32 := 8#32
  let v1759_r0 : BitVec 32 := Scalar.muli arg0 c8_i32_898_r0
  let v1760_r0 : BitVec 32 := Scalar.addi v1759_r0 c0_i32_899_r0
  let v1761_r0 : BitVec 32 := Scalar.addi v1760_r0 c0_i32_900_r0
  let v1768_r0 : Index := Scalar.indexCast v1761_r0
  ![13, v1768_r0.toNat]
def k0_off17 (i : grid0.Coords) (c0_i32_1045_r0 : BitVec 32) (c0_i32_1046_r0 : BitVec 32) : Fin 2 → Nat :=
  let c14_1048_r0 : Index := 14#32
  let arg0 : BitVec 32 := BitVec.ofNat 32 (i 0).val
  let c8_i32_1044_r0 : BitVec 32 := 8#32
  let v2045_r0 : BitVec 32 := Scalar.muli arg0 c8_i32_1044_r0
  let v2046_r0 : BitVec 32 := Scalar.addi v2045_r0 c0_i32_1045_r0
  let v2047_r0 : BitVec 32 := Scalar.addi v2046_r0 c0_i32_1046_r0
  let v2049_r0 : Index := Scalar.indexCast v2047_r0
  ![14, v2049_r0.toNat]
def k0_off18 (i : grid0.Coords) (c0_i32_1045_r0 : BitVec 32) (c0_i32_1046_r0 : BitVec 32) : Fin 2 → Nat :=
  let c15_1050_r0 : Index := 15#32
  let arg0 : BitVec 32 := BitVec.ofNat 32 (i 0).val
  let c8_i32_1044_r0 : BitVec 32 := 8#32
  let v2045_r0 : BitVec 32 := Scalar.muli arg0 c8_i32_1044_r0
  let v2046_r0 : BitVec 32 := Scalar.addi v2045_r0 c0_i32_1045_r0
  let v2047_r0 : BitVec 32 := Scalar.addi v2046_r0 c0_i32_1046_r0
  let v2054_r0 : Index := Scalar.indexCast v2047_r0
  ![15, v2054_r0.toNat]
def k0_off19 (i : grid0.Coords) (c0_i32_1193_r0 : BitVec 32) (c0_i32_1194_r0 : BitVec 32) : Fin 2 → Nat :=
  let c16_1196_r0 : Index := 16#32
  let arg0 : BitVec 32 := BitVec.ofNat 32 (i 0).val
  let c8_i32_1192_r0 : BitVec 32 := 8#32
  let v2331_r0 : BitVec 32 := Scalar.muli arg0 c8_i32_1192_r0
  let v2332_r0 : BitVec 32 := Scalar.addi v2331_r0 c0_i32_1193_r0
  let v2333_r0 : BitVec 32 := Scalar.addi v2332_r0 c0_i32_1194_r0
  let v2335_r0 : Index := Scalar.indexCast v2333_r0
  ![16, v2335_r0.toNat]
def k0_off20 (i : grid0.Coords) (c0_i32_1193_r0 : BitVec 32) (c0_i32_1194_r0 : BitVec 32) : Fin 2 → Nat :=
  let c17_1198_r0 : Index := 17#32
  let arg0 : BitVec 32 := BitVec.ofNat 32 (i 0).val
  let c8_i32_1192_r0 : BitVec 32 := 8#32
  let v2331_r0 : BitVec 32 := Scalar.muli arg0 c8_i32_1192_r0
  let v2332_r0 : BitVec 32 := Scalar.addi v2331_r0 c0_i32_1193_r0
  let v2333_r0 : BitVec 32 := Scalar.addi v2332_r0 c0_i32_1194_r0
  let v2340_r0 : Index := Scalar.indexCast v2333_r0
  ![17, v2340_r0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S18x144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x4608 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4608x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8192x4608 : Shape := ⟨2, ![8192, 4608]⟩
abbrev S32x8192 : Shape := ⟨2, ![32, 8192]⟩
abbrev S4608x36864 : Shape := ⟨2, ![4608, 36864]⟩
abbrev S18x144 : Shape := ⟨2, ![18, 144]⟩
abbrev S18x8192 : Shape := ⟨2, ![18, 8192]⟩
abbrev S8192x18 : Shape := ⟨2, ![8192, 18]⟩
abbrev S8192x18x256 : Shape := ⟨3, ![8192, 18, 256]⟩
abbrev S18x256x144 : Shape := ⟨3, ![18, 256, 144]⟩
abbrev S4608x144 : Shape := ⟨2, ![4608, 144]⟩
abbrev S4608x144x256 : Shape := ⟨3, ![4608, 144, 256]⟩
abbrev S8192x36864 : Shape := ⟨2, ![8192, 36864]⟩

abbrev nBuf : Space → Nat
  | .hbm => 15
  | .vmem => 5
  | .smem => 0
  | _ => 0

abbrev bufTy : (tb : Table) → Fin (tcTables nBuf tb) → BufTy
  | .hbm, ⟨0, _⟩ => ⟨S8192x4608, .fp8e4m3⟩
  | .hbm, ⟨1, _⟩ => ⟨S32x8192, .f32⟩
  | .hbm, ⟨2, _⟩ => ⟨S4608x36864, .fp8e4m3⟩
  | .hbm, ⟨3, _⟩ => ⟨S18x144, .f32⟩
  | .hbm, ⟨4, _⟩ => ⟨S18x8192, .f32⟩
  | .hbm, ⟨5, _⟩ => ⟨S8192x18, .f32⟩
  | .hbm, ⟨6, _⟩ => ⟨S8192x18, .bf16⟩
  | .hbm, ⟨7, _⟩ => ⟨S8192x18x256, .bf16⟩
  | .hbm, ⟨8, _⟩ => ⟨S8192x4608, .bf16⟩
  | .hbm, ⟨9, _⟩ => ⟨S18x144, .bf16⟩
  | .hbm, ⟨10, _⟩ => ⟨S18x256x144, .bf16⟩
  | .hbm, ⟨11, _⟩ => ⟨S4608x144, .bf16⟩
  | .hbm, ⟨12, _⟩ => ⟨S4608x144x256, .bf16⟩
  | .hbm, ⟨13, _⟩ => ⟨S4608x36864, .bf16⟩
  | .hbm, ⟨14, _⟩ => ⟨S8192x36864, .bf16⟩
  | .local _ .vmem, ⟨0, _⟩ => ⟨S8192x4608, .fp8e4m3⟩
  | .local _ .vmem, ⟨1, _⟩ => ⟨S8192x4608, .bf16⟩
  | .local _ .vmem, ⟨2, _⟩ => ⟨S4608x36864, .fp8e4m3⟩
  | .local _ .vmem, ⟨3, _⟩ => ⟨S4608x36864, .bf16⟩
  | .local _ .vmem, ⟨4, _⟩ => ⟨S8192x36864, .bf16⟩
  | _, _ => ⟨S8192x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8192x4608 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x36864 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608x36864 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x36864 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.VM.lean ====
/-
  THE KERNEL'S BODY AS A LIST OF OPERATIONS.

  The printed body of the block-scaled matmul is one straight line of some 37000 statements (the kernel unrolls 72 steps
  of 16 chunks each). Here it is written as what it is: a list of small operations (`Op`), produced by the loops of the
  kernel's source (`bodyOps`), and run by `run` on a handful of named registers (`Cont`'s arguments). `run` is defined so
  that the printed text and the run of the list are the SAME program by unfolding; the module `Body` says so.
-/
module

public import Idealize.ShloMosaic.Lib.Pipeline
public import Idealize.ShloMosaic.Lib.Scf
public import Idealize.ShloMosaic.Lib.Sig
public import Idealize.ShloMosaic.Lib.StableHlo
public import Idealize.ShloMosaic.PureOps
public import Idealize.ShloMosaic.Lib.Mxu

@[expose] public section

noncomputable section

namespace Cert.Mm

open Idealize.ShloMosaic Idealize.SL.Sem

abbrev T32 : Shape := ⟨2, ![32, 256]⟩
abbrev T1 : Shape := ⟨2, ![1, 256]⟩
abbrev T256 : Shape := ⟨2, ![256, 256]⟩
abbrev T128 : Shape := ⟨2, ![128, 128]⟩
abbrev U1 : Shape := ⟨2, ![1, 1]⟩
abbrev SSW : Shape := ⟨2, ![18, 144]⟩
abbrev SX : Shape := ⟨2, ![512, 4608]⟩
abbrev SSX : Shape := ⟨2, ![32, 512]⟩
abbrev SW : Shape := ⟨2, ![4608, 2048]⟩
abbrev SY : Shape := ⟨2, ![512, 2048]⟩
abbrev SWT : Shape := ⟨2, ![2048, 4608]⟩
abbrev SA : Shape := ⟨2, ![512, 256]⟩

/-- The body's buffers: the two scale tables, the two code tiles, the result tile, and the three scratch buffers (the
    transposed weight codes, the f32 partial sums, the bf16 block about to be transposed out). -/
structure Bufs (sig : RefSig) where
  sw : Memref sig .tc .smem SSW .f32
  x : Memref sig .tc .vmem SX .fp8e4m3
  sx : Memref sig .tc .vmem SSX .f32
  y : Memref sig .tc .vmem SY .bf16
  hy : y.IsWhole
  wt : Memref sig .tc .vmem SWT .fp8e4m3
  acc : Memref sig .tc .vmem SA .f32
  out : Memref sig .tc .vmem SA .bf16
  hout : out.IsWhole

/-- One operation of the body. Parameters: `tt` the half of the token tile, `nt` the block of 512 columns, `c` the chunk of
    32 columns in it, `j` the scaling group, `q` the matrix unit, `r` the staging register, `p` the half of the
    result ring, `h` the half of the column block. -/
inductive Op where
  /-- load a chunk of transposed weight codes -/
  | ldL (nt : Fin 4) (c : Fin 16) (j : Fin 18)
  /-- accumulate it, loading the staged tile first -/
  | accS (q r : Fin 2) (p : Fin 2) (c : Fin 16)
  /-- accumulate it with the tile already loaded -/
  | accL (q : Fin 2) (p : Fin 2) (c : Fin 16)
  /-- load a tile of token codes, widened -/
  | ldX (tt : Fin 2) (j : Fin 18)
  /-- stage it, transposed -/
  | push (q r : Fin 2)
  /-- pop unit 0's pass, times its scale row -/
  | pop0 (p : Fin 2) (c : Fin 16) (h : Bool)
  /-- pop unit 1's pass -/
  | pop1 (p : Fin 2) (c : Fin 16)
  /-- times its scale row -/
  | mul1 (h : Bool)
  /-- load the partial sums and add them -/
  | addC (c : Fin 16)
  /-- add unit 1's term -/
  | addB
  /-- load and drop the destination of a store -/
  | dead (c : Fin 16)
  /-- store the partial sums -/
  | stA (c : Fin 16)
  /-- round to bf16 and store -/
  | stO (c : Fin 16)
  /-- load a scale row of the tokens -/
  | ldS (j : Fin 18) (tt : Fin 2)
  /-- load a weight scale, broadcast -/
  | ldW (j : Fin 18) (nt : Fin 4) (h : Fin 2)
  /-- their product, kept as the scale row of unit `q` in half `h` -/
  | mulS (h : Bool) (q : Bool)
  /-- transpose one 128 by 128 block of the finished tile into the result -/
  | emit (tt : Fin 2) (nt : Fin 4) (a : Fin 4) (b : Fin 2)

/-! ## The loops of the source -/

/-- A step: half of the token tile, block of columns, round (two scaling groups), half of the ring. -/
structure Step where
  tt : Fin 2
  nt : Fin 4
  r : Fin 9
  p : Fin 2

/-- The group of unit `m` in round `r`. -/
abbrev grp (r : Fin 9) (m : Fin 2) : Fin 18 := ⟨2 * r.val + m.val, by omega⟩
abbrev other (p : Fin 2) : Fin 2 := ⟨1 - p.val, by omega⟩

def chunksLo : List (Fin 16) := [0, 1, 2, 3, 4, 5, 6, 7]
def chunksHi : List (Fin 16) := [8, 9, 10, 11, 12, 13, 14, 15]

/-- Stage the two tiles of a step in its staging register. -/
def pushOps (s : Step) : List Op :=
  [.ldX s.tt (grp s.r 0), .push 0 s.p, .ldX s.tt (grp s.r 1), .push 1 s.p]

/-- A step's first chunk, which loads the staged tiles, -/
def mulFirst (s : Step) : List Op :=
  [.ldL s.nt 0 (grp s.r 0), .accS 0 s.p s.p 0, .ldL s.nt 0 (grp s.r 1), .accS 1 s.p s.p 0]

/-- and any other. -/
def mulOps (s : Step) (c : Fin 16) : List Op :=
  [.ldL s.nt c (grp s.r 0), .accL 0 s.p c, .ldL s.nt c (grp s.r 1), .accL 1 s.p c]

/-- The four scale rows of a step. -/
def scaleOps (s : Step) : List Op :=
  [.ldS (grp s.r 0) s.tt, .ldW (grp s.r 0) s.nt 0, .mulS false false,
   .ldS (grp s.r 1) s.tt, .ldW (grp s.r 1) s.nt 0, .mulS false true,
   .ldS (grp s.r 0) s.tt, .ldW (grp s.r 0) s.nt 1, .mulS true false,
   .ldS (grp s.r 1) s.tt, .ldW (grp s.r 1) s.nt 1, .mulS true true]

/-- Drain one chunk of a step: first round, last round, any other. -/
def drainOps (s : Step) (h : Bool) (c : Fin 16) : List Op :=
  match s.r with
  | ⟨0, _⟩ => [.pop0 s.p c h, .pop1 s.p c, .mul1 h, .addB, .dead c, .stA c]
  | ⟨8, _⟩ => [.pop0 s.p c h, .pop1 s.p c, .mul1 h, .addC c, .addB, .stO c]
  | ⟨_, _⟩ => [.pop0 s.p c h, .pop1 s.p c, .mul1 h, .addC c, .addB, .dead c, .stA c]

/-- The finished block of a step, transposed out, if the step is its last round. -/
def emitOps (s : Step) : List Op :=
  match s.r with
  | ⟨8, _⟩ => [.emit s.tt s.nt 0 0, .emit s.tt s.nt 0 1, .emit s.tt s.nt 1 0, .emit s.tt s.nt 1 1,
               .emit s.tt s.nt 2 0, .emit s.tt s.nt 2 1, .emit s.tt s.nt 3 0, .emit s.tt s.nt 3 1]
  | ⟨_, _⟩ => []

/-- The steps, in order. -/
def steps : List Step :=
  [0, 1].flatMap fun tt => [0, 1, 2, 3].flatMap fun nt => [0, 1, 2, 3, 4, 5, 6, 7, 8].map fun r =>
    ⟨tt, nt, r, ⟨(nt.val + r.val) % 2, Nat.mod_lt _ (by decide)⟩⟩

/-- Stage the next step's tiles, if there is one. -/
def pushNext : List Step → List Op
  | [] => []
  | s :: _ => pushOps s

/-- From a step on, the step before it still to be drained. -/
def stepsFrom (prev : Step) : List Step → List Op
  | [] => scaleOps prev ++ (chunksLo.flatMap (drainOps prev false) ++ (chunksHi.flatMap (drainOps prev true) ++ emitOps prev))
  | s :: rest =>
    scaleOps prev ++ (mulFirst s ++ (pushNext rest ++ (drainOps prev false 0 ++
      (chunksLo.tail.flatMap (fun c => mulOps s c ++ drainOps prev false c) ++
      (chunksHi.flatMap (fun c => mulOps s c ++ drainOps prev true c) ++ (emitOps prev ++ stepsFrom s rest))))))

/-- The first step: nothing to drain. -/
def firstStep (s : Step) (rest : List Step) : List Op :=
  pushOps s ++ (mulFirst s ++ (pushNext rest ++ (chunksLo.tail.flatMap (mulOps s) ++ (chunksHi.flatMap (mulOps s) ++ stepsFrom s rest))))

/-- The body after the weight transposition. -/
def bodyOps : List Op :=
  match steps with
  | [] => []
  | s :: rest => firstStep s rest

/-! ## Running an operation -/

section
variable {nD : Nat} {τ : Topo} {sig : RefSig} {F : FTy → Type} [FloatOps F] {Λ : Labels}

theorem pos32 : 0 < T32.numel := by decide
theorem pos1 : 0 < T1.numel := by decide
theorem pos256 : 0 < T256.numel := by decide
theorem pos128 : 0 < T128.numel := by decide
theorem numelU1 : U1.numel = 1 := by decide
theorem lt8 : FTy.bits .fp8e4m3 < FTy.bits .bf16 := by decide
theorem lt16 : FTy.bits .bf16 < FTy.bits .f32 := by decide
theorem bc1 : T1.Broadcasts T32 := by decide
theorem sc32 : T32.ShapeCasts T32 := by decide
theorem tr128 : T128.Transposes [1, 0] T128 := by decide

theorem fits (p : Fin 2) (c : Fin 16) : Mxu.Fits (128 * p.val + 8 * c.val) 32 := by
  unfold Mxu.Fits; omega
theorem inbL (nt : Fin 4) (c : Fin 16) (j : Fin 18) :
    ∀ a, (![512 * nt.val + 32 * c.val, 256 * j.val] : Fin 2 → Nat) a + T32.size a ≤ SWT.size a := by
  intro a; fin_cases a <;> simp <;> omega
theorem inbX (tt : Fin 2) (j : Fin 18) :
    ∀ a, (![256 * tt.val, 256 * j.val] : Fin 2 → Nat) a + T256.size a ≤ SX.size a := by
  intro a; fin_cases a <;> simp <;> omega
theorem inbA (c : Fin 16) : ∀ a, (![32 * c.val, 0] : Fin 2 → Nat) a + T32.size a ≤ SA.size a := by
  intro a; fin_cases a <;> simp <;> omega
theorem inbO (a : Fin 4) (b : Fin 2) : ∀ x, (![128 * a.val, 128 * b.val] : Fin 2 → Nat) x + T128.size x ≤ SA.size x := by
  intro a; fin_cases a <;> simp <;> omega
theorem inbY (tt : Fin 2) (nt : Fin 4) (a : Fin 4) (b : Fin 2) :
    ∀ x, (![256 * tt.val + 128 * b.val, 512 * nt.val + 128 * a.val] : Fin 2 → Nat) x + T128.size x ≤ SY.size x := by
  intro a; fin_cases a <;> simp <;> omega
theorem inbS (j : Fin 18) (tt : Fin 2) : ∀ a, (![j.val, 256 * tt.val] : Fin 2 → Nat) a + T1.size a ≤ SSX.size a := by
  intro a; fin_cases a <;> simp <;> omega

/-- The weight scale's place in its table, as the kernel computes it. -/
abbrev offW (i0 : Fin 18) (j : Fin 18) (nt : Fin 4) (h : Fin 2) : Fin 2 → Nat :=
  ![j.val, (Scalar.indexCast (Scalar.addi (Scalar.addi (Scalar.muli (BitVec.ofNat 32 i0.val) 8#32) (BitVec.ofNat 32 (2 * nt.val)))
    (BitVec.ofNat 32 h.val))).toNat]
theorem offW_col : ∀ (i0 : Fin 18) (nt : Fin 4) (h : Fin 2),
    (Scalar.indexCast (Scalar.addi (Scalar.addi (Scalar.muli (BitVec.ofNat 32 i0.val) 8#32) (BitVec.ofNat 32 (2 * nt.val)))
    (BitVec.ofNat 32 h.val))).toNat = 8 * i0.val + 2 * nt.val + h.val := by decide +kernel
theorem inbW (i0 : Fin 18) (j : Fin 18) (nt : Fin 4) (h : Fin 2) : ∀ a, offW i0 j nt h a + U1.size a ≤ SSW.size a := by
  intro a; fin_cases a
  · simp; omega
  · show (Scalar.indexCast _).toNat + 1 ≤ 144
    rw [offW_col]; omega

theorem packO (c : Fin 16) : (Rect.unit (s := SA) ![32 * c.val, 0] T32.size (inbA c)).PackedRows (EltTy.packing .bf16) := by
  revert c; decide
theorem packY (tt : Fin 2) (nt : Fin 4) (a : Fin 4) (b : Fin 2) :
    (Rect.unit (s := SY) ![256 * tt.val + 128 * b.val, 512 * nt.val + 128 * a.val] T128.size (inbY tt nt a b)).PackedRows (EltTy.packing .bf16) := by
  revert tt nt a b; decide +kernel

/-- What runs next, as a function of the registers: the matrix unit, the four scale rows, a scale row and a broadcast
    scale, a chunk of weight codes, a tile of token codes, three chunks of numbers. -/
abbrev Cont (nD : Nat) (τ : Topo) (sig : RefSig) (F : FTy → Type) [FloatOps F] (Λ : Labels) (α : Type) : Type 1 :=
  Mxu F → FVec F T1 .f32 → FVec F T1 .f32 → FVec F T1 .f32 → FVec F T1 .f32 → FVec F T1 .f32 → FVec F T1 .f32 →
  FVec F T32 .fp8e4m3 → FVec F T256 .bf16 → FVec F T32 .f32 → FVec F T32 .f32 →
  Prog (TpuEff nD τ sig (Elt F) Λ .tc) α

/-- Run one operation, then `k`. -/
def Op.run (B : Bufs sig) (i0 : Fin 18) {α : Type} (o : Op) (k : Cont nD τ sig F Λ α) : Cont nD τ sig F Λ α :=
  fun M s00 s01 s10 s11 t w L X a b =>
  match o with
  | .ldL nt c j =>
    .op (.load B.wt (Rect.unit (s := SWT) ![512 * nt.val + 32 * c.val, 256 * j.val] T32.size (inbL nt c j)).toLoadRect (View.loadsAt_vmem pos32))
      fun (v : Vec F T32 .fp8e4m3) => k M s00 s01 s10 s11 t w v X a b
  | .accS q r p c => k (M.accLhs q r (128 * p.val + 8 * c.val) (extf .bf16 L lt8) (fits p c)) s00 s01 s10 s11 t w L X a b
  | .accL q p c =>
    .op (.assume ((M.gmr q).isSome = true)) fun hl =>
      k (M.accBy q ((M.gmr q).get hl.down) (128 * p.val + 8 * c.val) (extf .bf16 L lt8) (fits p c)) s00 s01 s10 s11 t w L X a b
  | .ldX tt j =>
    .op (.load B.x (Rect.unit (s := SX) ![256 * tt.val, 256 * j.val] T256.size (inbX tt j)).toLoadRect (View.loadsAt_vmem pos256))
      fun (v : Vec F T256 .fp8e4m3) => k M s00 s01 s10 s11 t w L (extf .bf16 v lt8) a b
  | .push q r => .op (.assume (M.PushOk q r true)) fun _ => k (M.pushed q r true X) s00 s01 s10 s11 t w L X a b
  | .pop0 p c h =>
    k (M.pop 0 (128 * p.val + 8 * c.val) 32 (fits p c)) s00 s01 s10 s11 t w L X
      (mulf (M.read 0 (128 * p.val + 8 * c.val) (fits p c)) (broadcastTo T32 (h.rec s00 s10) bc1)) b
  | .pop1 p c =>
    k (M.pop 1 (128 * p.val + 8 * c.val) 32 (fits p c)) s00 s01 s10 s11 t w L X a (M.read 1 (128 * p.val + 8 * c.val) (fits p c))
  | .mul1 h => k M s00 s01 s10 s11 t w L X a (mulf b (broadcastTo T32 (h.rec s01 s11) bc1))
  | .addC c =>
    .op (.load B.acc (Rect.unit (s := SA) ![32 * c.val, 0] T32.size (inbA c)).toLoadRect (View.loadsAt_vmem pos32))
      fun (v : Vec F T32 .f32) => k M s00 s01 s10 s11 t w L X (addf a v) b
  | .addB => k M s00 s01 s10 s11 t w L X (addf a b) b
  | .dead c =>
    .op (.load B.acc (Rect.unit (s := SA) ![32 * c.val, 0] T32.size (inbA c)).toLoadRect (View.loadsAt_vmem pos32))
      fun _ => k M s00 s01 s10 s11 t w L X a b
  | .stA c =>
    .op (.store B.acc (Rect.unit (s := SA) ![32 * c.val, 0] T32.size (inbA c)) (shapeCast T32 a sc32) Finset.univ
      (View.stores_vmem_bits_univ pos32 rfl) (.inl rfl)) fun _ => k M s00 s01 s10 s11 t w L X a b
  | .stO c =>
    .op (.load B.out (Rect.unit (s := SA) ![32 * c.val, 0] T32.size (inbA c)).toLoadRect (View.loadsAt_vmem pos32))
      fun _ => .op (.store B.out (Rect.unit (s := SA) ![32 * c.val, 0] T32.size (inbA c)) (shapeCast T32 (truncf .bf16 a lt16) sc32) Finset.univ
        (View.stores_vmem pos32 (B.hout.storeExact_slice rfl _ (packO c)) (fun _ => rfl)) (.inl rfl)) fun _ => k M s00 s01 s10 s11 t w L X a b
  | .ldS j tt =>
    .op (.load B.sx (Rect.unit (s := SSX) ![j.val, 256 * tt.val] T1.size (inbS j tt)).toLoadRect (View.loadsAt_vmem pos1))
      fun (v : Vec F T1 .f32) => k M s00 s01 s10 s11 v w L X a b
  | .ldW j nt h =>
    Prog.bind (smemLoad B.sw (Rect.unit (s := SSW) (offW i0 j nt h) U1.size (inbW i0 j nt h)) numelU1 rfl)
      fun v => k M s00 s01 s10 s11 t (broadcast T1 v) L X a b
  | .mulS h q =>
    match h, q with
    | false, false => k M (mulf t w) s01 s10 s11 t w L X a b
    | false, true => k M s00 (mulf t w) s10 s11 t w L X a b
    | true, false => k M s00 s01 (mulf t w) s11 t w L X a b
    | true, true => k M s00 s01 s10 (mulf t w) t w L X a b
  | .emit tt nt x y =>
    .op (.load B.out (Rect.unit (s := SA) ![128 * x.val, 128 * y.val] T128.size (inbO x y)).toLoadRect (View.loadsAt_vmem pos128))
      fun (v : Vec F T128 .bf16) => .op (.load B.y (Rect.unit (s := SY) ![256 * tt.val + 128 * y.val, 512 * nt.val + 128 * x.val] T128.size (inbY tt nt x y)).toLoadRect
        (View.loadsAt_vmem pos128))
      fun _ => .op (.store B.y (Rect.unit (s := SY) ![256 * tt.val + 128 * y.val, 512 * nt.val + 128 * x.val] T128.size (inbY tt nt x y))
        (transpose T128 [1, 0] v tr128) Finset.univ
        (View.stores_vmem pos128 (B.hy.storeExact_slice rfl _ (packY tt nt x y)) (fun _ => rfl)) (.inl rfl))
      fun _ => k M s00 s01 s10 s11 t w L X a b

/-- Run a list of operations, then `k`. -/
def run (B : Bufs sig) (i0 : Fin 18) {α : Type} (l : List Op) (k : Cont nD τ sig F Λ α) : Cont nD τ sig F Λ α :=
  l.foldr (fun o k => o.run B i0 k) k

theorem run_append (B : Bufs sig) (i0 : Fin 18) {α : Type} (l l' : List Op) (k : Cont nD τ sig F Λ α) :
    run B i0 (l ++ l') k = run B i0 l (run B i0 l' k) := by
  unfold run; rw [List.foldr_append]

end

end Cert.Mm
-- ==== Proof.Walk.lean ====
module
public import proofs.«01_k».proof.Proof.VM
/-!
# Matching a printed body with the operation list

One lemma per shape of a printed statement: what the statement does is what the head of the list does, and the rest is left to
match. The state of the matrix unit after an accumulate is a variable from there on.
-/
@[expose] public section
noncomputable section
namespace Cert.Mm
open Idealize.ShloMosaic Idealize.SL.Sem
section
universe v
variable {E : Type → Type v} {α β γ : Type}
theorem st_ret {a : α} {f : α → Prog E β} {R : Prog E β} (h : f a = R) : (Prog.ret a >>= f) = R := h
theorem st_bind {m : Prog E α} {f : α → Prog E β} {g : β → Prog E γ} {R : Prog E γ} (h : (m >>= fun x => f x >>= g) = R) :
    ((m >>= f) >>= g) = R := (Prog.bind_assoc m f g).trans h
theorem st_lift {e e' : E α} {f : α → Prog E β} {R : Prog E β} {K : α → Prog E β} (hR : R = .op e' K) (he : e = e') (h : ∀ v, f v = K v) :
    (Prog.lift e >>= f) = R := by subst hR he; exact congrArg _ (funext h)
end
variable {nD : Nat} {τ : Topo} {sig : RefSig} {F : FTy → Type} [FloatOps F] {Λ : Labels} {α : Type}
theorem st_push {M M' : Mxu F} {q q' r r' : Fin 2} {φ : FTy} {v : FVec F (Mxu.STile 256) φ} {f : Mxu F → Prog (TpuEff nD τ sig (Elt F) Λ .tc) α} {R} {K}
    (hR : R = .op (.assume (M'.PushOk q' r' true)) K) (hM : M = M') (hq : q = q') (hr : r = r')
    (h : ∀ v', f (M.pushed q r true v) = K v') :
    (M.pushRhs q r true v >>= f) = R := by subst hR hM hq hr; exact congrArg _ (funext h)
theorem st_any {β : Type} {m m' : Prog (TpuEff nD τ sig (Elt F) Λ .tc) β}
    {f : β → Prog (TpuEff nD τ sig (Elt F) Λ .tc) α} {R} {K}
    (hR : R = Prog.bind m' K) (hm : m = m') (h : ∀ v, f v = K v) : (m >>= f) = R := by
  subst hR hm; exact congrArg _ (funext h)
theorem st_acc {B : Bufs sig} {i0 : Fin 18} {l : List Op} {k : Cont nD τ sig F Λ α} {M M' : Mxu F} {q q' : Fin 2} {p c} {A : Nat}
    {lhs : FVec F T32 .bf16} {hA : Mxu.Fits A 32} {f : Mxu F → Prog (TpuEff nD τ sig (Elt F) Λ .tc) α} {R} {s00 s01 s10 s11 t w L X a b}
    (hR : R = List.foldr (fun o k => o.run B i0 k) k (.accL q' p c :: l) M' s00 s01 s10 s11 t w L X a b) (hM : M = M') (hq : q = q')
    (hA' : A = 128 * p.val + 8 * c.val) (hl : lhs = extf .bf16 L lt8)
    (h : ∀ M2, f M2 = List.foldr (fun o k => o.run B i0 k) k l M2 s00 s01 s10 s11 t w L X a b) :
    (M.accLhsLoaded q A lhs hA >>= f) = R := by
  subst hR hM hq hA' hl; exact congrArg _ (funext fun hl => h _)

/-- Cut a list of operations after `n`. -/
theorem run_split {B : Bufs sig} {i0 : Fin 18} (l : List Op) (n m a : Nat) (h : a = n + m) (k : Cont nD τ sig F Λ α) :
    run B i0 (l.drop n) k = run B i0 ((l.drop n).take m) (run B i0 (l.drop a) k) := by
  rw [← run_append, h, ← List.drop_drop, List.take_append_drop]
end Cert.Mm
-- ==== Proof.PartsA.lean ====
module
public import proofs.«01_k».proof.Proof.Walk
public import proofs.«01_k».proof.Kernel
/-!
# The printed parts 625 to 627 run their stretch of the operation list
-/
@[expose] public section
set_option maxRecDepth 65536
set_option maxHeartbeats 0
noncomputable section
namespace Cert.Kernel
open Idealize.ShloMosaic Idealize.SL.Sem Cert.Mm
variable {F : FTy → Type} [FloatOps F] [Facts₀] [Facts]

/-- Whatever the registers the part does not read hold, and whatever runs after it. -/
theorem partsA (i : grid0.Coords) (arg2 : Memref sig .tc .smem S18x144 .f32) (harg2 : arg2.IsWhole) (arg3 : Memref sig .tc .vmem S512x4608 .fp8e4m3) (harg3 : arg3.IsWhole) (arg4 : Memref sig .tc .vmem S32x512 .f32) (harg4 : arg4.IsWhole) (arg5 : Memref sig .tc .vmem S4608x2048 .fp8e4m3) (harg5 : arg5.IsWhole) (arg6 : Memref sig .tc .vmem S512x2048 .bf16) (harg6 : arg6.IsWhole) (arg7 : Memref sig .tc .vmem S2048x4608 .fp8e4m3) (harg7 : arg7.IsWhole) (arg8 : Memref sig .tc .vmem S512x256 .f32) (harg8 : arg8.IsWhole) (arg9 : Memref sig .tc .vmem S512x256 .bf16) (harg9 : arg9.IsWhole) :
    (∀ (g : _ → Prog (TpuEff nD τ sig (Elt F) Λ₀ .tc) PUnit) (K : Cont nD τ sig F Λ₀ PUnit) (arg0 : BitVec 32) (v : FVec F T32 .f32) M s00 s01 s10 s11 t w L X a b,
      (∀ M s00 s01 s10 s11 t w L X a b, g ⟨s10, s11, M⟩ = K M s00 s01 s10 s11 t w L X a b) →
      (k0_part625 i arg2 harg2 arg3 harg3 arg4 harg4 arg5 harg5 arg6 harg6 arg7 harg7 arg8 harg8 arg9 harg9 arg0 s10 s11 M a >>= g) =
        run ⟨arg2, arg3, arg4, arg6, harg6, arg7, arg8, arg9, harg9⟩ ⟨(i 0).val, (i 0).isLt⟩ ((bodyOps.drop 1343).take 1304) K M s00 s01 s10 s11 t w L X a b) ∧
    (∀ (g : _ → Prog (TpuEff nD τ sig (Elt F) Λ₀ .tc) PUnit) (K : Cont nD τ sig F Λ₀ PUnit) (arg0 : BitVec 32) (v : FVec F T32 .f32) M s00 s01 s10 s11 t w L X a b,
      (∀ M s00 s01 s10 s11 t w L X a b (v : FVec F T32 .f32), g ⟨s10, s11, M, a, v⟩ = K M s00 s01 s10 s11 t w L X a b) →
      (k0_part626 i arg2 harg2 arg3 harg3 arg4 harg4 arg5 harg5 arg6 harg6 arg7 harg7 arg8 harg8 arg9 harg9 arg0 s10 s11 M >>= g) =
        run ⟨arg2, arg3, arg4, arg6, harg6, arg7, arg8, arg9, harg9⟩ ⟨(i 0).val, (i 0).isLt⟩ ((bodyOps.drop 2647).take 1304) K M s00 s01 s10 s11 t w L X a b) ∧
    (∀ (g : _ → Prog (TpuEff nD τ sig (Elt F) Λ₀ .tc) PUnit) (K : Cont nD τ sig F Λ₀ PUnit) (arg0 : BitVec 32) (v : FVec F T32 .f32) M s00 s01 s10 s11 t w L X a b,
      (∀ M s00 s01 s10 s11 t w L X a b, g ⟨s00, s01, s10, s11, M, a⟩ = K M s00 s01 s10 s11 t w L X a b) →
      (k0_part627 i arg2 harg2 arg3 harg3 arg4 harg4 arg5 harg5 arg6 harg6 arg7 harg7 arg8 harg8 arg9 harg9 arg0 s10 s11 M a v >>= g) =
        run ⟨arg2, arg3, arg4, arg6, harg6, arg7, arg8, arg9, harg9⟩ ⟨(i 0).val, (i 0).isLt⟩ ((bodyOps.drop 3951).take 1298) K M s00 s01 s10 s11 t w L X a b) := by
  refine ⟨?_, ?_, ?_⟩ <;> intros <;> rename_i hg <;> simp only [run]
  all_goals
    repeat
      first
      | with_reducible refine st_ret ?_
      | with_reducible refine st_bind ?_
      | (with_reducible apply st_lift); (· exact rfl); (· exact rfl); intro _
      | (with_reducible apply st_acc); (· exact rfl); (· exact rfl); (· exact rfl); (· exact rfl); (· exact rfl); intro _
      | (with_reducible apply st_push); (· exact rfl); (· exact rfl); (· exact rfl); (· exact rfl); intro _
      | refine st_bind ?_
      | (with_reducible apply st_any); (· exact rfl); (· exact rfl); intro _
    first
    | exact hg _ _ _ _ _ _ _ _ _ _ _
    | exact hg _ _ _ _ _ _ _ _ _ _ _ _
end Cert.Kernel
-- ==== Proof.PartsB.lean ====
module
public import proofs.«01_k».proof.Proof.Walk
public import proofs.«01_k».proof.Kernel
/-!
# The printed parts 628 to 630 run their stretch of the operation list
-/
@[expose] public section
set_option maxRecDepth 65536
set_option maxHeartbeats 0
noncomputable section
namespace Cert.Kernel
open Idealize.ShloMosaic Idealize.SL.Sem Cert.Mm
variable {F : FTy → Type} [FloatOps F] [Facts₀] [Facts]

/-- Whatever the registers the part does not read hold, and whatever runs after it. -/
theorem partsB (i : grid0.Coords) (arg2 : Memref sig .tc .smem S18x144 .f32) (harg2 : arg2.IsWhole) (arg3 : Memref sig .tc .vmem S512x4608 .fp8e4m3) (harg3 : arg3.IsWhole) (arg4 : Memref sig .tc .vmem S32x512 .f32) (harg4 : arg4.IsWhole) (arg5 : Memref sig .tc .vmem S4608x2048 .fp8e4m3) (harg5 : arg5.IsWhole) (arg6 : Memref sig .tc .vmem S512x2048 .bf16) (harg6 : arg6.IsWhole) (arg7 : Memref sig .tc .vmem S2048x4608 .fp8e4m3) (harg7 : arg7.IsWhole) (arg8 : Memref sig .tc .vmem S512x256 .f32) (harg8 : arg8.IsWhole) (arg9 : Memref sig .tc .vmem S512x256 .bf16) (harg9 : arg9.IsWhole) :
    (∀ (g : _ → Prog (TpuEff nD τ sig (Elt F) Λ₀ .tc) PUnit) (K : Cont nD τ sig F Λ₀ PUnit) (arg0 : BitVec 32) (v : FVec F T32 .f32) M s00 s01 s10 s11 t w L X a b,
      (∀ M s00 s01 s10 s11 t w L X a b, g ⟨s00, s01, s10, s11, a, b, M⟩ = K M s00 s01 s10 s11 t w L X a b) →
      (k0_part628 i arg2 harg2 arg3 harg3 arg4 harg4 arg5 harg5 arg6 harg6 arg7 harg7 arg8 harg8 arg9 harg9 arg0 s00 s01 s10 s11 M a >>= g) =
        run ⟨arg2, arg3, arg4, arg6, harg6, arg7, arg8, arg9, harg9⟩ ⟨(i 0).val, (i 0).isLt⟩ ((bodyOps.drop 5249).take 1340) K M s00 s01 s10 s11 t w L X a b) ∧
    (∀ (g : _ → Prog (TpuEff nD τ sig (Elt F) Λ₀ .tc) PUnit) (K : Cont nD τ sig F Λ₀ PUnit) (arg0 : BitVec 32) (v : FVec F T32 .f32) M s00 s01 s10 s11 t w L X a b,
      (∀ M s00 s01 s10 s11 t w L X a b, g ⟨s00, s01, s10, s11, M, L⟩ = K M s00 s01 s10 s11 t w L X a b) →
      (k0_part629 i arg2 harg2 arg3 harg3 arg4 harg4 arg5 harg5 arg6 harg6 arg7 harg7 arg8 harg8 arg9 harg9 arg0 s00 s01 s10 s11 a b M >>= g) =
        run ⟨arg2, arg3, arg4, arg6, harg6, arg7, arg8, arg9, harg9⟩ ⟨(i 0).val, (i 0).isLt⟩ ((bodyOps.drop 6589).take 1304) K M s00 s01 s10 s11 t w L X a b) ∧
    (∀ (g : _ → Prog (TpuEff nD τ sig (Elt F) Λ₀ .tc) PUnit) (K : Cont nD τ sig F Λ₀ PUnit) (arg0 : BitVec 32) (v : FVec F T32 .f32) M s00 s01 s10 s11 t w L X a b,
      (∀ M s00 s01 s10 s11 t w L X a b, g ⟨s00, s01, s10, s11, a, M, b⟩ = K M s00 s01 s10 s11 t w L X a b) →
      (k0_part630 i arg2 harg2 arg3 harg3 arg4 harg4 arg5 harg5 arg6 harg6 arg7 harg7 arg8 harg8 arg9 harg9 arg0 s00 s01 s10 s11 M L >>= g) =
        run ⟨arg2, arg3, arg4, arg6, harg6, arg7, arg8, arg9, harg9⟩ ⟨(i 0).val, (i 0).isLt⟩ ((bodyOps.drop 7893).take 1304) K M s00 s01 s10 s11 t w L X a b) := by
  refine ⟨?_, ?_, ?_⟩ <;> intros <;> rename_i hg <;> simp only [run]
  all_goals
    repeat
      first
      | with_reducible refine st_ret ?_
      | with_reducible refine st_bind ?_
      | (with_reducible apply st_lift); (· exact rfl); (· exact rfl); intro _
      | (with_reducible apply st_acc); (· exact rfl); (· exact rfl); (· exact rfl); (· exact rfl); (· exact rfl); intro _
      | (with_reducible apply st_push); (· exact rfl); (· exact rfl); (· exact rfl); (· exact rfl); intro _
      | refine st_bind ?_
      | (with_reducible apply st_any); (· exact rfl); (· exact rfl); intro _
    exact hg _ _ _ _ _ _ _ _ _ _ _
end Cert.Kernel
-- ==== Proof.PartsC.lean ====
module
public import proofs.«01_k».proof.Proof.Walk
public import proofs.«01_k».proof.Kernel
/-!
# The printed parts 631 to 634 run their stretch of the operation list
-/
@[expose] public section
set_option maxRecDepth 65536
set_option maxHeartbeats 0
noncomputable section
namespace Cert.Kernel
open Idealize.ShloMosaic Idealize.SL.Sem Cert.Mm
variable {F : FTy → Type} [FloatOps F] [Facts₀] [Facts]

/-- Whatever the registers the part does not read hold, and whatever runs after it. -/
theorem partsC (i : grid0.Coords) (arg2 : Memref sig .tc .smem S18x144 .f32) (harg2 : arg2.IsWhole) (arg3 : Memref sig .tc .vmem S512x4608 .fp8e4m3) (harg3 : arg3.IsWhole) (arg4 : Memref sig .tc .vmem S32x512 .f32) (harg4 : arg4.IsWhole) (arg5 : Memref sig .tc .vmem S4608x2048 .fp8e4m3) (harg5 : arg5.IsWhole) (arg6 : Memref sig .tc .vmem S512x2048 .bf16) (harg6 : arg6.IsWhole) (arg7 : Memref sig .tc .vmem S2048x4608 .fp8e4m3) (harg7 : arg7.IsWhole) (arg8 : Memref sig .tc .vmem S512x256 .f32) (harg8 : arg8.IsWhole) (arg9 : Memref sig .tc .vmem S512x256 .bf16) (harg9 : arg9.IsWhole) :
    (∀ (g : _ → Prog (TpuEff nD τ sig (Elt F) Λ₀ .tc) PUnit) (K : Cont nD τ sig F Λ₀ PUnit) (arg0 : BitVec 32) (v : FVec F T32 .f32) M s00 s01 s10 s11 t w L X a b,
      (∀ M s00 s01 s10 s11 t w L X a b, g ⟨s00, s01, s10, s11, M⟩ = K M s00 s01 s10 s11 t w L X a b) →
      (k0_part631 i arg2 harg2 arg3 harg3 arg4 harg4 arg5 harg5 arg6 harg6 arg7 harg7 arg8 harg8 arg9 harg9 arg0 s00 s01 s10 s11 a M b >>= g) =
        run ⟨arg2, arg3, arg4, arg6, harg6, arg7, arg8, arg9, harg9⟩ ⟨(i 0).val, (i 0).isLt⟩ ((bodyOps.drop 9197).take 1304) K M s00 s01 s10 s11 t w L X a b) ∧
    (∀ (g : _ → Prog (TpuEff nD τ sig (Elt F) Λ₀ .tc) PUnit) (K : Cont nD τ sig F Λ₀ PUnit) (arg0 : BitVec 32) (v : FVec F T32 .f32) M s00 s01 s10 s11 t w L X a b,
      (∀ M s00 s01 s10 s11 t w L X a b, g ⟨s00, s01, s10, s11, M, X⟩ = K M s00 s01 s10 s11 t w L X a b) →
      (k0_part632 i arg2 harg2 arg3 harg3 arg4 harg4 arg5 harg5 arg6 harg6 arg7 harg7 arg8 harg8 arg9 harg9 arg0 s00 s01 s10 s11 M >>= g) =
        run ⟨arg2, arg3, arg4, arg6, harg6, arg7, arg8, arg9, harg9⟩ ⟨(i 0).val, (i 0).isLt⟩ ((bodyOps.drop 10501).take 1334) K M s00 s01 s10 s11 t w L X a b) ∧
    (∀ (g : _ → Prog (TpuEff nD τ sig (Elt F) Λ₀ .tc) PUnit) (K : Cont nD τ sig F Λ₀ PUnit) (arg0 : BitVec 32) (v : FVec F T32 .f32) M s00 s01 s10 s11 t w L X a b,
      (∀ M s00 s01 s10 s11 t w L X a b, g ⟨M, s00, t, w⟩ = K M s00 s01 s10 s11 t w L X a b) →
      (k0_part633 i arg2 harg2 arg3 harg3 arg4 harg4 arg5 harg5 arg6 harg6 arg7 harg7 arg8 harg8 arg9 harg9 arg0 s00 s01 s10 s11 M X >>= g) =
        run ⟨arg2, arg3, arg4, arg6, harg6, arg7, arg8, arg9, harg9⟩ ⟨(i 0).val, (i 0).isLt⟩ ((bodyOps.drop 11835).take 1306) K M s00 s01 s10 s11 t w L X a b) ∧
    (∀ (g : _ → Prog (TpuEff nD τ sig (Elt F) Λ₀ .tc) PUnit) (K : Cont nD τ sig F Λ₀ PUnit) (arg0 : BitVec 32) (v : FVec F T32 .f32) M s00 s01 s10 s11 t w L X a b,
      (∀ M s00 s01 s10 s11 t w L X a b, g M = K M s00 s01 s10 s11 t w L X a b) →
      (k0_part634 i arg2 harg2 arg3 harg3 arg4 harg4 arg5 harg5 arg6 harg6 arg7 harg7 arg8 harg8 arg9 harg9 arg0 M s00 t w >>= g) =
        run ⟨arg2, arg3, arg4, arg6, harg6, arg7, arg8, arg9, harg9⟩ ⟨(i 0).val, (i 0).isLt⟩ ((bodyOps.drop 13141).take 489) K M s00 s01 s10 s11 t w L X a b) := by
  refine ⟨?_, ?_, ?_, ?_⟩ <;> intros <;> rename_i hg <;> simp only [run]
  all_goals
    repeat
      first
      | with_reducible refine st_ret ?_
      | with_reducible refine st_bind ?_
      | (with_reducible apply st_lift); (· exact rfl); (· exact rfl); intro _
      | (with_reducible apply st_acc); (· exact rfl); (· exact rfl); (· exact rfl); (· exact rfl); (· exact rfl); intro _
      | (with_reducible apply st_push); (· exact rfl); (· exact rfl); (· exact rfl); (· exact rfl); intro _
      | refine st_bind ?_
      | (with_reducible apply st_any); (· exact rfl); (· exact rfl); intro _
    exact hg _ _ _ _ _ _ _ _ _ _ _
end Cert.Kernel
-- ==== Proof.PartsD.lean ====
module
public import proofs.«01_k».proof.Proof.Walk
public import proofs.«01_k».proof.Kernel
/-!
# The printed part 624: the weight transposition, then the first stretch of the operation list
-/
@[expose] public section
set_option maxRecDepth 65536
set_option maxHeartbeats 0
noncomputable section
namespace Cert.Kernel
open Idealize.ShloMosaic Idealize.SL.Sem Cert.Mm
open Shapes1.Facts₀ K0.Facts₀
variable {F : FTy → Type} [FloatOps F] [Facts₀] [Facts]

/-- The weight transposition, at the first token tile of a block of columns: 144 blocks, one a trip. -/
def prologue (i : grid0.Coords) (arg2 : Memref sig .tc .smem S18x144 .f32) (harg2 : arg2.IsWhole) (arg3 : Memref sig .tc .vmem S512x4608 .fp8e4m3) (harg3 : arg3.IsWhole) (arg4 : Memref sig .tc .vmem S32x512 .f32) (harg4 : arg4.IsWhole) (arg5 : Memref sig .tc .vmem S4608x2048 .fp8e4m3) (harg5 : arg5.IsWhole) (arg6 : Memref sig .tc .vmem S512x2048 .bf16) (harg6 : arg6.IsWhole) (arg7 : Memref sig .tc .vmem S2048x4608 .fp8e4m3) (harg7 : arg7.IsWhole) (arg8 : Memref sig .tc .vmem S512x256 .f32) (harg8 : arg8.IsWhole) (arg9 : Memref sig .tc .vmem S512x256 .bf16) (harg9 : arg9.IsWhole) :
    Prog (TpuEff nD τ sig (Elt F) Λ₀ .tc) PUnit :=
  if k0_h1 : k0_cond1 i = 1#1 then do
    Scf.Loop.for k0_t1_loop (k0_t1_ok i k0_h1) ⟨⟩ fun k0_t1 _ => do
      let v37 : Vec F S256x256 .fp8e4m3 ← Prog.lift (.load arg5 (Rect.unit (s := S4608x2048) (k0_off1 k0_t1) S256x256.size (k0_off1_inb i k0_t1 k0_h1)).toLoadRect (View.loadsAt_vmem h_S256x256))
      have v38 : FVec F S256x256 .bf16 := extf .bf16 v37 bitsLt_fp8e4m3_bf16
      have v39 : FVec F S256x256 .bf16 := transpose S256x256 [1, 0] v38 transposes_S256x256_p1_0_S256x256
      have v40 : FVec F S256x256 .fp8e4m3 := truncf .fp8e4m3 v39 bitsLt_fp8e4m3_bf16
      let _ : Vec F S256x256 .fp8e4m3 ← Prog.lift (.load arg7 (Rect.unit (s := S2048x4608) (k0_off2 k0_t1) S256x256.size (k0_off2_inb i k0_t1 k0_h1)).toLoadRect (View.loadsAt_vmem h_S256x256))
      have v45 : FVec F S256x256 .fp8e4m3 := shapeCast S256x256 v40 shapeCasts_S256x256_S256x256
      Prog.lift (.store arg7 (Rect.unit (s := S2048x4608) (k0_off2 k0_t1) S256x256.size (k0_off2_inb i k0_t1 k0_h1)) v45 Finset.univ (View.stores_vmem h_S256x256 (harg7.storeExact_slice rfl _ (k0_off2_packedfp8e4m3 i k0_t1 k0_h1)) (fun _ => rfl)) (.inl rfl))
      pure ⟨⟩
    pure ⟨⟩
  else do
    pure ⟨⟩

/-- The first part transposes the weights, then starts with an empty matrix unit. -/
theorem partsD (i : grid0.Coords) (arg2 : Memref sig .tc .smem S18x144 .f32) (harg2 : arg2.IsWhole) (arg3 : Memref sig .tc .vmem S512x4608 .fp8e4m3) (harg3 : arg3.IsWhole) (arg4 : Memref sig .tc .vmem S32x512 .f32) (harg4 : arg4.IsWhole) (arg5 : Memref sig .tc .vmem S4608x2048 .fp8e4m3) (harg5 : arg5.IsWhole) (arg6 : Memref sig .tc .vmem S512x2048 .bf16) (harg6 : arg6.IsWhole) (arg7 : Memref sig .tc .vmem S2048x4608 .fp8e4m3) (harg7 : arg7.IsWhole) (arg8 : Memref sig .tc .vmem S512x256 .f32) (harg8 : arg8.IsWhole) (arg9 : Memref sig .tc .vmem S512x256 .bf16) (harg9 : arg9.IsWhole)
    (g : _ → Prog (TpuEff nD τ sig (Elt F) Λ₀ .tc) PUnit) (K : Cont nD τ sig F Λ₀ PUnit) s00 s01 s10 s11 t w L X a b
    (hg : ∀ M s00 s01 s10 s11 t w L X a b, g ⟨BitVec.ofNat 32 (i 0).val, s10, s11, M, a⟩ = K M s00 s01 s10 s11 t w L X a b) :
    (k0_part624 i arg2 harg2 arg3 harg3 arg4 harg4 arg5 harg5 arg6 harg6 arg7 harg7 arg8 harg8 arg9 harg9 >>= g) = (prologue i arg2 harg2 arg3 harg3 arg4 harg4 arg5 harg5 arg6 harg6 arg7 harg7 arg8 harg8 arg9 harg9 >>= fun _ =>
      run ⟨arg2, arg3, arg4, arg6, harg6, arg7, arg8, arg9, harg9⟩ ⟨(i 0).val, (i 0).isLt⟩ (bodyOps.take 1343) K Mxu.init s00 s01 s10 s11 t w L X a b) := by
  refine st_bind ?_
  rw [prologue]
  unfold k0_part1
  by_cases h : k0_cond1 i = 1#1
  · rw [dif_pos h, dif_pos h]
    refine (Prog.bind_assoc _ _ _).trans (Eq.trans ?_ (Prog.bind_assoc _ _ _).symm)
    refine congrArg (Prog.bind _) (funext fun _ => ?_)
    refine Eq.trans ?_ (Prog.bind_ret _ _).symm
    beta_reduce
    simp only [run]
    repeat
      first
      | with_reducible refine st_ret ?_
      | with_reducible refine st_bind ?_
      | (with_reducible apply st_lift); (· exact rfl); (· exact rfl); intro _
      | (with_reducible apply st_acc); (· exact rfl); (· exact rfl); (· exact rfl); (· exact rfl); (· exact rfl); intro _
      | (with_reducible apply st_push); (· exact rfl); (· exact rfl); (· exact rfl); (· exact rfl); intro _
      | refine st_bind ?_
      | (with_reducible apply st_any); (· exact rfl); (· exact rfl); intro _
    exact hg _ _ _ _ _ _ _ _ _ _ _
  · rw [dif_neg h, dif_neg h]
    refine Eq.trans ?_ (Prog.bind_ret _ _).symm
    beta_reduce
    simp only [run]
    repeat
      first
      | with_reducible refine st_ret ?_
      | with_reducible refine st_bind ?_
      | (with_reducible apply st_lift); (· exact rfl); (· exact rfl); intro _
      | (with_reducible apply st_acc); (· exact rfl); (· exact rfl); (· exact rfl); (· exact rfl); (· exact rfl); intro _
      | (with_reducible apply st_push); (· exact rfl); (· exact rfl); (· exact rfl); (· exact rfl); intro _
      | refine st_bind ?_
      | (with_reducible apply st_any); (· exact rfl); (· exact rfl); intro _
    exact hg _ _ _ _ _ _ _ _ _ _ _
end Cert.Kernel
-- ==== Proof.Body.lean ====
module
public import proofs.«01_k».proof.Proof.PartsA
public import proofs.«01_k».proof.Proof.PartsB
public import proofs.«01_k».proof.Proof.PartsC
public import proofs.«01_k».proof.Proof.PartsD
/-!
# The printed body is the weight transposition, then the operation list
-/
@[expose] public section
set_option maxRecDepth 65536
set_option maxHeartbeats 0
noncomputable section
namespace Cert.Kernel
open Idealize.ShloMosaic Idealize.SL.Sem Cert.Mm
variable {F : FTy → Type} [FloatOps F] [Facts₀] [Facts]

/-- The body, whatever the registers start with; at the end the matrix units must be drained. -/
theorem body_eq (i : grid0.Coords) (arg2 : Memref sig .tc .smem S18x144 .f32) (harg2 : arg2.IsWhole) (arg3 : Memref sig .tc .vmem S512x4608 .fp8e4m3) (harg3 : arg3.IsWhole) (arg4 : Memref sig .tc .vmem S32x512 .f32) (harg4 : arg4.IsWhole) (arg5 : Memref sig .tc .vmem S4608x2048 .fp8e4m3) (harg5 : arg5.IsWhole) (arg6 : Memref sig .tc .vmem S512x2048 .bf16) (harg6 : arg6.IsWhole) (arg7 : Memref sig .tc .vmem S2048x4608 .fp8e4m3) (harg7 : arg7.IsWhole) (arg8 : Memref sig .tc .vmem S512x256 .f32) (harg8 : arg8.IsWhole) (arg9 : Memref sig .tc .vmem S512x256 .bf16) (harg9 : arg9.IsWhole)
    (v : FVec F T32 .f32) (s00 s01 s10 s11 t w : FVec F T1 .f32) (L : FVec F T32 .fp8e4m3) (X : FVec F T256 .bf16) (a b : FVec F T32 .f32) :
    cc0_block_scaled_matmul i arg2 harg2 arg3 harg3 arg4 harg4 arg5 harg5 arg6 harg6 arg7 harg7 arg8 harg8 arg9 harg9 = (prologue i arg2 harg2 arg3 harg3 arg4 harg4 arg5 harg5 arg6 harg6 arg7 harg7 arg8 harg8 arg9 harg9 >>= fun _ =>
      run ⟨arg2, arg3, arg4, arg6, harg6, arg7, arg8, arg9, harg9⟩ ⟨(i 0).val, (i 0).isLt⟩ bodyOps
        (fun M _ _ _ _ _ _ _ _ _ _ => M.exit >>= fun _ => pure ⟨⟩) (Mxu.init : Mxu F) s00 s01 s10 s11 t w L X a b) := by
  have h0 : ∀ k : Cont nD τ sig F Λ₀ PUnit, run ⟨arg2, arg3, arg4, arg6, harg6, arg7, arg8, arg9, harg9⟩ ⟨(i 0).val, (i 0).isLt⟩ bodyOps k =
      run ⟨arg2, arg3, arg4, arg6, harg6, arg7, arg8, arg9, harg9⟩ ⟨(i 0).val, (i 0).isLt⟩ (bodyOps.take 1343)
        (run ⟨arg2, arg3, arg4, arg6, harg6, arg7, arg8, arg9, harg9⟩ ⟨(i 0).val, (i 0).isLt⟩ (bodyOps.drop 1343) k) := by
    intro k; rw [← run_append, List.take_append_drop]
  rw [h0]
  unfold cc0_block_scaled_matmul
  refine partsD i arg2 harg2 arg3 harg3 arg4 harg4 arg5 harg5 arg6 harg6 arg7 harg7 arg8 harg8 arg9 harg9 _ _ s00 s01 s10 s11 t w L X a b ?_
  intro M s00 s01 s10 s11 t w L X a b
  rw [run_split bodyOps 1343 1304 2647 rfl]
  refine (partsA i arg2 harg2 arg3 harg3 arg4 harg4 arg5 harg5 arg6 harg6 arg7 harg7 arg8 harg8 arg9 harg9).1 _ _ _ v M s00 s01 s10 s11 t w L X a b ?_
  intro M s00 s01 s10 s11 t w L X a b
  rw [run_split bodyOps 2647 1304 3951 rfl]
  refine (partsA i arg2 harg2 arg3 harg3 arg4 harg4 arg5 harg5 arg6 harg6 arg7 harg7 arg8 harg8 arg9 harg9).2.1 _ _ _ v M s00 s01 s10 s11 t w L X a b ?_
  intro M s00 s01 s10 s11 t w L X a b v
  rw [run_split bodyOps 3951 1298 5249 rfl]
  refine (partsA i arg2 harg2 arg3 harg3 arg4 harg4 arg5 harg5 arg6 harg6 arg7 harg7 arg8 harg8 arg9 harg9).2.2 _ _ _ v M s00 s01 s10 s11 t w L X a b ?_
  intro M s00 s01 s10 s11 t w L X a b
  rw [run_split bodyOps 5249 1340 6589 rfl]
  refine (partsB i arg2 harg2 arg3 harg3 arg4 harg4 arg5 harg5 arg6 harg6 arg7 harg7 arg8 harg8 arg9 harg9).1 _ _ _ v M s00 s01 s10 s11 t w L X a b ?_
  intro M s00 s01 s10 s11 t w L X a b
  rw [run_split bodyOps 6589 1304 7893 rfl]
  refine (partsB i arg2 harg2 arg3 harg3 arg4 harg4 arg5 harg5 arg6 harg6 arg7 harg7 arg8 harg8 arg9 harg9).2.1 _ _ _ v M s00 s01 s10 s11 t w L X a b ?_
  intro M s00 s01 s10 s11 t w L X a b
  rw [run_split bodyOps 7893 1304 9197 rfl]
  refine (partsB i arg2 harg2 arg3 harg3 arg4 harg4 arg5 harg5 arg6 harg6 arg7 harg7 arg8 harg8 arg9 harg9).2.2 _ _ _ v M s00 s01 s10 s11 t w L X a b ?_
  intro M s00 s01 s10 s11 t w L X a b
  rw [run_split bodyOps 9197 1304 10501 rfl]
  refine (partsC i arg2 harg2 arg3 harg3 arg4 harg4 arg5 harg5 arg6 harg6 arg7 harg7 arg8 harg8 arg9 harg9).1 _ _ _ v M s00 s01 s10 s11 t w L X a b ?_
  intro M s00 s01 s10 s11 t w L X a b
  rw [run_split bodyOps 10501 1334 11835 rfl]
  refine (partsC i arg2 harg2 arg3 harg3 arg4 harg4 arg5 harg5 arg6 harg6 arg7 harg7 arg8 harg8 arg9 harg9).2.1 _ _ _ v M s00 s01 s10 s11 t w L X a b ?_
  intro M s00 s01 s10 s11 t w L X a b
  rw [run_split bodyOps 11835 1306 13141 rfl]
  refine (partsC i arg2 harg2 arg3 harg3 arg4 harg4 arg5 harg5 arg6 harg6 arg7 harg7 arg8 harg8 arg9 harg9).2.2.1 _ _ _ v M s00 s01 s10 s11 t w L X a b ?_
  intro M s00 s01 s10 s11 t w L X a b
  rw [run_split bodyOps 13141 489 13630 rfl]
  refine (partsC i arg2 harg2 arg3 harg3 arg4 harg4 arg5 harg5 arg6 harg6 arg7 harg7 arg8 harg8 arg9 harg9).2.2.2 _ _ _ v M s00 s01 s10 s11 t w L X a b ?_
  intro M s00 s01 s10 s11 t w L X a b
  simp only [run]
  repeat
    first
    | with_reducible refine st_ret ?_
    | with_reducible refine st_bind ?_
    | (with_reducible apply st_lift); (· exact rfl); (· exact rfl); intro _
  exact rfl
end Cert.Kernel
-- ==== Proof.Sym.lean ====
module
public import proofs.«01_k».proof.Proof.VM
/-!
# What every register holds, by name

The list of operations is run once on NAMES: a symbolic state says of every register, row of the matrix units and chunk of the
scratch which pass, term or partial sum it holds, and a step checks that the operation meets what it should. The check of the
whole list is one evaluation (`bodyOps_check`); the module `Sound` says that the names are right.
-/
@[expose] public section
namespace Cert.Mm

/-- Equality of two positions, as a test. -/
def feq {n : Nat} (a b : Fin n) : Bool := Nat.beq a.val b.val

theorem feq_iff {n : Nat} {a b : Fin n} : feq a b = true ↔ a = b := by
  unfold feq
  rw [Nat.beq_eq]
  exact ⟨fun h => Fin.ext h, fun h => congrArg _ h⟩

theorem feq_false {n : Nat} {a b : Fin n} : feq a b = false ↔ a ≠ b := by
  rw [← Bool.not_eq_true, feq_iff]

/-- The half of a column block that chunk `c` lies in. -/
abbrev half (c : Fin 16) : Fin 2 := ⟨c.val / 8, by omega⟩

/-- A tile of token codes. -/
structure TileTag where
  tt : Fin 2
  j : Fin 18

/-- A pass or a term: token half, column block, group, chunk. -/
structure PassTag where
  tt : Fin 2
  nt : Fin 4
  j : Fin 18
  c : Fin 16

/-- A scale row: token half, column block, group, half of the block. -/
structure RowTag where
  tt : Fin 2
  nt : Fin 4
  j : Fin 18
  h : Fin 2

/-- A chunk of sums: token half, column block, chunk, rounds summed. -/
structure SumTag where
  tt : Fin 2
  nt : Fin 4
  c : Fin 16
  r : Nat

/-- What a chunk of numbers is: a pass, a scaled pass, the sums with unit 0's term of a round added, the sums after a round. -/
inductive Lab where
  | raw (v : PassTag)
  | term (v : PassTag)
  | mid (v : SumTag)
  | part (v : SumTag)

/-- The symbolic state. -/
structure Sy where
  reg : Fin 2 → Fin 2 → Option TileTag
  gmr : Fin 2 → Option TileTag
  row : Fin 2 → Fin 2 → Fin 16 → Option PassTag
  s00 : Option RowTag
  s01 : Option RowTag
  s10 : Option RowTag
  s11 : Option RowTag
  t : Option TileTag
  w : Option RowTag
  L : Option PassTag
  X : Option TileTag
  a : Option Lab
  b : Option Lab
  acc : Fin 16 → Option SumTag
  out : Fin 16 → Option SumTag
  y : Fin 2 → Fin 4 → Fin 4 → Fin 2 → Bool

/-- Nothing known, the matrix units empty. -/
def Sy.init : Sy :=
  ⟨fun _ _ => none, fun _ => none, fun _ _ _ => none, none, none, none, none, none, none, none, none, none, none,
    fun _ => none, fun _ => none, fun _ _ _ _ => false⟩

/-- One operation on names. -/
def Op.step (o : Op) (σ : Sy) : Option Sy :=
  match σ with
  | ⟨reg, gmr, row, s00, s01, s10, s11, t, w, L, X, a, b, acc, out, y⟩ =>
    match o with
    | .ldL nt c j => some ⟨reg, gmr, row, s00, s01, s10, s11, t, w, some ⟨0, nt, j, c⟩, X, a, b, acc, out, y⟩
    | .accS q r p c =>
      match reg q r, L, row q p c with
      | some v, some l, none =>
        cond (feq v.j l.j && feq l.c c)
          (some ⟨fun q' r' => cond (feq q' q && feq r' r) none (reg q' r'), fun q' => cond (feq q' q) (some v) (gmr q'),
            fun q' p' c' => cond (feq q' q && (feq p' p && feq c' c)) (some ⟨v.tt, l.nt, v.j, c⟩) (row q' p' c'),
            s00, s01, s10, s11, t, w, L, X, a, b, acc, out, y⟩) none
      | _, _, _ => none
    | .accL q p c =>
      match gmr q, L, row q p c with
      | some v, some l, none =>
        cond (feq v.j l.j && feq l.c c)
          (some ⟨reg, gmr,
            fun q' p' c' => cond (feq q' q && (feq p' p && feq c' c)) (some ⟨v.tt, l.nt, v.j, c⟩) (row q' p' c'),
            s00, s01, s10, s11, t, w, L, X, a, b, acc, out, y⟩) none
      | _, _, _ => none
    | .ldX tt j => some ⟨reg, gmr, row, s00, s01, s10, s11, t, w, L, some ⟨tt, j⟩, a, b, acc, out, y⟩
    | .push q r =>
      match reg q r, X with
      | none, some v =>
        some ⟨fun q' r' => cond (feq q' q && feq r' r) (some v) (reg q' r'), gmr, row, s00, s01, s10, s11, t, w, L, X, a, b,
          acc, out, y⟩
      | _, _ => none
    | .pop0 p c h =>
      match row 0 p c, cond h s10 s00 with
      | some v, some s =>
        cond (feq v.tt s.tt && (feq v.nt s.nt && (feq v.j s.j && (feq v.c c && feq s.h (half c)))))
          (some ⟨reg, gmr, fun q' p' c' => cond (feq q' 0 && (feq p' p && feq c' c)) none (row q' p' c'),
            s00, s01, s10, s11, t, w, L, X, some (.term v), b, acc, out, y⟩) none
      | _, _ => none
    | .pop1 p c =>
      match row 1 p c with
      | some v =>
        some ⟨reg, gmr, fun q' p' c' => cond (feq q' 1 && (feq p' p && feq c' c)) none (row q' p' c'),
            s00, s01, s10, s11, t, w, L, X, a, some (.raw v), acc, out, y⟩
      | _ => none
    | .mul1 h =>
      match b, cond h s11 s01 with
      | some (.raw v), some s =>
        cond (feq v.tt s.tt && (feq v.nt s.nt && (feq v.j s.j && feq s.h (half v.c))))
          (some ⟨reg, gmr, row, s00, s01, s10, s11, t, w, L, X, a, some (.term v), acc, out, y⟩) none
      | _, _ => none
    | .addC c =>
      match a, acc c with
      | some (.term v), some u =>
        cond (feq v.tt u.tt && (feq v.nt u.nt && (feq v.c u.c && Nat.beq v.j.val (2 * (u.r + 1)))))
          (some ⟨reg, gmr, row, s00, s01, s10, s11, t, w, L, X, some (.mid ⟨u.tt, u.nt, u.c, Nat.succ u.r⟩), b, acc, out, y⟩) none
      | _, _ => none
    | .addB =>
      match a, b with
      | some (.mid u), some (.term v) =>
        cond (feq v.tt u.tt && (feq v.nt u.nt && (feq v.c u.c && Nat.beq v.j.val (2 * u.r + 1))))
          (some ⟨reg, gmr, row, s00, s01, s10, s11, t, w, L, X, some (.part u), b, acc, out, y⟩) none
      | some (.term u), some (.term v) =>
        cond (feq v.tt u.tt && (feq v.nt u.nt && (feq v.c u.c && (Nat.beq u.j.val 0 && Nat.beq v.j.val 1))))
          (some ⟨reg, gmr, row, s00, s01, s10, s11, t, w, L, X, some (.part ⟨u.tt, u.nt, u.c, 0⟩), b, acc, out, y⟩) none
      | _, _ => none
    | .dead _ => some ⟨reg, gmr, row, s00, s01, s10, s11, t, w, L, X, a, b, acc, out, y⟩
    | .stA c =>
      match a with
      | some (.part u) =>
        cond (feq u.c c)
          (some ⟨reg, gmr, row, s00, s01, s10, s11, t, w, L, X, a, b, fun c' => cond (feq c' c) (some u) (acc c'), out, y⟩) none
      | _ => none
    | .stO c =>
      match a with
      | some (.part u) =>
        cond (feq u.c c && Nat.beq u.r 8)
          (some ⟨reg, gmr, row, s00, s01, s10, s11, t, w, L, X, a, b, acc, fun c' => cond (feq c' c) (some u) (out c'), y⟩) none
      | _ => none
    | .ldS j tt => some ⟨reg, gmr, row, s00, s01, s10, s11, some ⟨tt, j⟩, w, L, X, a, b, acc, out, y⟩
    | .ldW j nt h => some ⟨reg, gmr, row, s00, s01, s10, s11, t, some ⟨0, nt, j, h⟩, L, X, a, b, acc, out, y⟩
    | .mulS h q =>
      match t, w with
      | some u, some v =>
        cond (feq u.j v.j)
          (match h, q with
          | false, false => some ⟨reg, gmr, row, some ⟨u.tt, v.nt, v.j, v.h⟩, s01, s10, s11, t, w, L, X, a, b, acc, out, y⟩
          | false, true => some ⟨reg, gmr, row, s00, some ⟨u.tt, v.nt, v.j, v.h⟩, s10, s11, t, w, L, X, a, b, acc, out, y⟩
          | true, false => some ⟨reg, gmr, row, s00, s01, some ⟨u.tt, v.nt, v.j, v.h⟩, s11, t, w, L, X, a, b, acc, out, y⟩
          | true, true => some ⟨reg, gmr, row, s00, s01, s10, some ⟨u.tt, v.nt, v.j, v.h⟩, t, w, L, X, a, b, acc, out, y⟩) none
      | _, _ => none
    | .emit tt nt x z =>
      match out ⟨4 * x.val, by omega⟩, out ⟨4 * x.val + 1, by omega⟩, out ⟨4 * x.val + 2, by omega⟩, out ⟨4 * x.val + 3, by omega⟩ with
      | some u0, some u1, some u2, some u3 =>
        cond (feq u0.tt tt && (feq u0.nt nt && (feq u1.tt tt && (feq u1.nt nt && (feq u2.tt tt && (feq u2.nt nt &&
            (feq u3.tt tt && feq u3.nt nt)))))))
          (some ⟨reg, gmr, row, s00, s01, s10, s11, t, w, L, X, a, b, acc, out,
            fun tt' nt' x' z' => cond (feq tt' tt && (feq nt' nt && (feq x' x && feq z' z))) true (y tt' nt' x' z')⟩) none
      | _, _, _, _ => none

/-- A list of operations on names. -/
def steps? : List Op → Sy → Option Sy
  | [], σ => some σ
  | o :: l, σ =>
    match o.step σ with
    | some σ' => steps? l σ'
    | none => none

def all2 (p : Fin 2 → Bool) : Bool := p 0 && p 1
def all4 (p : Fin 4 → Bool) : Bool := p 0 && (p 1 && (p 2 && p 3))

/-- At the end the matrix units are empty and every block of the result is written. -/
def Sy.good (σ : Sy) : Bool :=
  (all2 fun q => all2 fun r => (σ.reg q r).isNone) &&
  ((all2 fun q => all2 fun p => (chunksLo ++ chunksHi).all fun c => (σ.row q p c).isNone) &&
   (all2 fun tt => all4 fun nt => all4 fun x => all2 fun z => σ.y tt nt x z))

/-- The whole list, from nothing. -/
def bodyCheck : Bool :=
  match steps? bodyOps Sy.init with
  | some σ => σ.good
  | none => false

set_option maxRecDepth 1000000 in
theorem bodyOps_check : bodyCheck = true := by decide +kernel

end Cert.Mm
-- ==== Proof.Sound.lean ====
module
public import proofs.«01_k».proof.Proof.Sym
public import Idealize.ShloMosaic.Lib.Mxu.Lemmas
/-!
# The names are right: values

What the names of `Sym` stand for (`Env`), and that the state of the matrix units keeps matching them through every operation.
-/
@[expose] public section
noncomputable section
namespace Cert.Mm
open Idealize.ShloMosaic Idealize.SL.Sem

/-- A group by number. -/
def jn (n : Nat) : Fin 18 := ⟨n % 18, Nat.mod_lt _ (by decide)⟩

theorem eq_jn {j : Fin 18} {n : Nat} (h : j.val = n) : j = jn n := by
  apply Fin.ext
  show j.val = n % 18
  rw [h, Nat.mod_eq_of_lt]
  have := j.isLt
  omega

section
variable (F : FTy → Type)

/-- What the body reads: chunks of transposed weight codes, tiles of token codes, scale rows of the tokens, weight scales. -/
structure Env where
  wt : Fin 4 → Fin 16 → Fin 18 → FVec F T32 .fp8e4m3
  x : Fin 2 → Fin 18 → FVec F T256 .fp8e4m3
  sx : Fin 18 → Fin 2 → FVec F T1 .f32
  sw : Fin 18 → Fin 4 → Fin 2 → F .f32
end

variable {F : FTy → Type} [FloatOps F]

namespace Env
variable (D : Env F)

def tile (v : TileTag) : FVec F T256 .bf16 := extf .bf16 (D.x v.tt v.j) lt8
/-- The tile as it is staged. -/
def staged (v : TileTag) : Mxu.Staged F := ⟨.bf16, true, D.tile v⟩
def pass (v : PassTag) : FVec F T32 .f32 := (D.staged ⟨v.tt, v.j⟩).pass (M := 32) (extf .bf16 (D.wt v.nt v.c v.j) lt8)
def srow (v : RowTag) : FVec F T1 .f32 := mulf (D.sx v.j v.tt) (broadcast T1 (D.sw v.j v.nt v.h))
def term (v : PassTag) : FVec F T32 .f32 := mulf (D.pass v) (broadcastTo T32 (D.srow ⟨v.tt, v.nt, v.j, half v.c⟩) bc1)
/-- The partial sums of a chunk after round `r`. -/
def part (tt : Fin 2) (nt : Fin 4) (c : Fin 16) : Nat → FVec F T32 .f32
  | 0 => addf (D.term ⟨tt, nt, jn 0, c⟩) (D.term ⟨tt, nt, jn 1, c⟩)
  | r + 1 => addf (addf (D.term ⟨tt, nt, jn (2 * (r + 1)), c⟩) (part tt nt c r)) (D.term ⟨tt, nt, jn (2 * (r + 1) + 1), c⟩)

/-- What a label says of a chunk of numbers. -/
def Is : Lab → FVec F T32 .f32 → Prop
  | .raw v, a => a = D.pass v
  | .term v, a => a = D.term v
  | .mid u, a => ∃ r, u.r = r + 1 ∧ a = addf (D.term ⟨u.tt, u.nt, jn (2 * (r + 1)), u.c⟩) (D.part u.tt u.nt u.c r)
  | .part u, a => a = D.part u.tt u.nt u.c u.r

/-- A finished block of the result. -/
def blk (tt : Fin 2) (nt : Fin 4) (x : Fin 4) (z : Fin 2) : FVec F T128 .bf16 := fun i =>
  truncf .bf16 (D.part tt nt ⟨4 * x.val + (i 1).val / 32, by have : (i 1).val < 128 := (i 1).isLt; omega⟩ 8) lt16
    (Mxu.ix (m := 32) (n := 256) ⟨(i 1).val % 32, by omega⟩ ⟨128 * z.val + (i 0).val, by have : (i 0).val < 128 := (i 0).isLt; omega⟩)
end Env

theorem cond_some {α : Type} {b : Bool} {x y : α} (h : cond b (some x) none = some y) : b = true ∧ x = y := by
  cases b
  · cases h
  · exact ⟨rfl, Option.some.inj h⟩

theorem cond2 {α : Type} {m n : Nat} {a a' : Fin m} {b b' : Fin n} {x y : α} :
    cond (feq a a' && feq b b') x y = if a = a' ∧ b = b' then x else y := by
  by_cases h : a = a' ∧ b = b'
  · rw [if_pos h, feq_iff.mpr h.1, feq_iff.mpr h.2]; rfl
  · rw [if_neg h]
    by_cases h1 : a = a'
    · rw [feq_iff.mpr h1, feq_false.mpr (fun h2 => h ⟨h1, h2⟩)]; rfl
    · rw [feq_false.mpr h1]; rfl

theorem cond3 {α : Type} {l m n : Nat} {a a' : Fin l} {b b' : Fin m} {d d' : Fin n} {x y : α} :
    cond (feq a a' && (feq b b' && feq d d')) x y = if a = a' ∧ b = b' ∧ d = d' then x else y := by
  by_cases h1 : a = a'
  · rw [feq_iff.mpr h1, Bool.true_and, cond2]
    simp only [h1, true_and]
  · rw [feq_false.mpr h1, if_neg (fun h => h1 h.1)]; rfl

/-- Two chunks of the rings that are not the same share no row. -/
theorem apart {q q' p p' : Fin 2} {c c' : Fin 16} (h : ¬(q' = q ∧ p' = p ∧ c' = c)) :
    q' ≠ q ∨ 4 * (128 * p'.val + 8 * c'.val) + 32 ≤ 4 * (128 * p.val + 8 * c.val) ∨
      4 * (128 * p.val + 8 * c.val) + 32 ≤ 4 * (128 * p'.val + 8 * c'.val) := by
  by_cases hq : q' = q
  · right
    have h' : ¬(p'.val = p.val ∧ c'.val = c.val) := fun h2 => h ⟨hq, Fin.ext h2.1, Fin.ext h2.2⟩
    omega
  · exact .inl hq

/-- The matrix units match the names. -/
structure MRel (D : Env F) (reg : Fin 2 → Fin 2 → Option TileTag) (gmr : Fin 2 → Option TileTag)
    (row : Fin 2 → Fin 2 → Fin 16 → Option PassTag) (M : Mxu F) : Prop where
  reg : ∀ q r, M.reg q r = (reg q r).map D.staged
  gmr : ∀ q v, gmr q = some v → M.gmr q = some (D.staged v)
  dead : ∀ q p c, row q p c = none → ∀ r : Fin 32, M.live q (Mxu.row (fits p c) r) = false
  row : ∀ q p c v, row q p c = some v → v.c = c ∧ M.read q (128 * p.val + 8 * c.val) (fits p c) = D.pass v

theorem MRel.init (D : Env F) : MRel D (fun _ _ => none) (fun _ => none) (fun _ _ _ => none) Mxu.init where
  reg := fun q r => Mxu.reg_init q r
  gmr := fun q v h => by cases h
  dead := fun q p c _ r => rfl
  row := fun q p c v h => by cases h

variable {D : Env F} {reg : Fin 2 → Fin 2 → Option TileTag} {gmr : Fin 2 → Option TileTag}
  {row : Fin 2 → Fin 2 → Fin 16 → Option PassTag} {M : Mxu F}

theorem MRel.push (h : MRel D reg gmr row M) {q r : Fin 2} {v : TileTag} (hn : reg q r = none) :
    MRel D (fun q' r' => cond (feq q' q && feq r' r) (some v) (reg q' r')) gmr row (M.pushed q r true (D.tile v)) where
  reg := fun q' r' => by
    have hM : M.reg q r = none := by rw [h.reg, hn]; rfl
    rw [cond2]
    by_cases e : q' = q ∧ r' = r
    · rw [if_pos e, e.1, e.2]; exact Mxu.reg_pushed_of_none M q r true (D.tile v) hM
    · rw [if_neg e, Mxu.reg_pushed_ne M q r true (D.tile v) q' r' e]; exact h.reg q' r'
  gmr := fun q v hv => by rw [Mxu.gmr_pushed]; exact h.gmr q v hv
  dead := fun q p c hc r => by rw [Mxu.live_pushed]; exact h.dead q p c hc r
  row := fun q p c v hv => by rw [Mxu.read_pushed]; exact h.row q p c v hv

/-- The rows an accumulate leaves: its own chunk becomes a pass, the others stay. -/
theorem MRel.accRows (h : MRel D reg gmr row M) {q p : Fin 2} {c : Fin 16} (hn : row q p c = none) {v : TileTag} {nt : Fin 4}
    (q' p' : Fin 2) (c' : Fin 16) :
    (cond (feq q' q && (feq p' p && feq c' c)) (some (⟨v.tt, nt, v.j, c⟩ : PassTag)) (row q' p' c') = none →
      ∀ r : Fin 32, (M.accBy q (D.staged v) (128 * p.val + 8 * c.val) (M := 32) (extf .bf16 (D.wt nt c v.j) lt8) (fits p c)).live q'
        (Mxu.row (fits p' c') r) = false) ∧
    (∀ u, cond (feq q' q && (feq p' p && feq c' c)) (some (⟨v.tt, nt, v.j, c⟩ : PassTag)) (row q' p' c') = some u →
      u.c = c' ∧ (M.accBy q (D.staged v) (128 * p.val + 8 * c.val) (M := 32) (extf .bf16 (D.wt nt c v.j) lt8) (fits p c)).read q'
        (128 * p'.val + 8 * c'.val) (fits p' c') = D.pass u) := by
  rw [cond3]
  by_cases e : q' = q ∧ p' = p ∧ c' = c
  · rw [if_pos e]
    obtain ⟨rfl, rfl, rfl⟩ := e
    refine ⟨nofun, fun u hu => ?_⟩
    cases hu
    exact ⟨rfl, Mxu.read_accBy_of_not_live M q' _ (D.staged v) _ (fits p' c') (h.dead q' p' c' hn)⟩
  · rw [if_neg e]
    have ha := apart e
    refine ⟨fun hc r => ?_, fun u hu => ?_⟩
    · rw [Mxu.live_accBy, if_neg]
      · exact h.dead q' p' c' hc r
      · rintro ⟨h1, h2, h3⟩
        have hr : r.val < 32 := r.isLt
        dsimp only [Mxu.row] at h2 h3
        rcases ha with ha | ha
        · exact ha h1
        · omega
    · rw [Mxu.read_accBy_ne _ _ _ _ _ _ _ _ _ ha]
      exact h.row q' p' c' u hu

theorem MRel.accL (h : MRel D reg gmr row M) {q p : Fin 2} {c : Fin 16} (hn : row q p c = none) {v : TileTag} {nt : Fin 4} :
    MRel D reg gmr (fun q' p' c' => cond (feq q' q && (feq p' p && feq c' c)) (some ⟨v.tt, nt, v.j, c⟩) (row q' p' c'))
      (M.accBy q (D.staged v) (128 * p.val + 8 * c.val) (M := 32) (extf .bf16 (D.wt nt c v.j) lt8) (fits p c)) where
  reg := h.reg
  gmr := h.gmr
  dead := fun q' p' c' => (h.accRows hn q' p' c').1
  row := fun q' p' c' => (h.accRows hn q' p' c').2

theorem MRel.accS (h : MRel D reg gmr row M) {q r p : Fin 2} {c : Fin 16} (hn : row q p c = none) {v : TileTag} {nt : Fin 4}
    (hv : reg q r = some v) :
    MRel D (fun q' r' => cond (feq q' q && feq r' r) none (reg q' r')) (fun q' => cond (feq q' q) (some v) (gmr q'))
      (fun q' p' c' => cond (feq q' q && (feq p' p && feq c' c)) (some ⟨v.tt, nt, v.j, c⟩) (row q' p' c'))
      (M.accLhs q r (128 * p.val + 8 * c.val) (M := 32) (extf .bf16 (D.wt nt c v.j) lt8) (fits p c)) := by
  have hs : M.staged q r = D.staged v := by
    rw [Mxu.staged_eq, h.reg, hv]; rfl
  refine ⟨fun q' r' => ?_, fun q' v' hv' => ?_, fun q' p' c' hc => ?_, fun q' p' c' u hu => ?_⟩
  · rw [cond2]
    by_cases e : q' = q ∧ r' = r
    · rw [if_pos e, e.1, e.2]; exact Mxu.reg_accLhs M q r _ _ _
    · rw [if_neg e, Mxu.reg_accLhs_ne M q r _ _ _ q' r' e]; exact h.reg q' r'
  · by_cases e : q' = q
    · subst e
      rw [feq_iff.mpr rfl] at hv'
      cases hv'
      rw [Mxu.gmr_accLhs, hs]
    · rw [feq_false.mpr e] at hv'
      rw [Mxu.gmr_accLhs_ne M q r _ _ _ q' e]; exact h.gmr q' v' hv'
  · exact (h.accRows hn q' p' c').1 hc
  · rw [Mxu.read_accLhs_eq_accBy, hs]
    exact (h.accRows hn q' p' c').2 u hu

theorem MRel.pop (h : MRel D reg gmr row M) {q p : Fin 2} {c : Fin 16} :
    MRel D reg gmr (fun q' p' c' => cond (feq q' q && (feq p' p && feq c' c)) none (row q' p' c'))
      (M.pop q (128 * p.val + 8 * c.val) 32 (fits p c)) where
  reg := h.reg
  gmr := h.gmr
  dead := fun q' p' c' hc r => by
    rw [cond3] at hc
    rw [Mxu.live_pop]
    by_cases e : q' = q ∧ p' = p ∧ c' = c
    · obtain ⟨rfl, rfl, rfl⟩ := e
      have hr : r.val < 32 := r.isLt
      exact if_pos ⟨rfl, by dsimp only [Mxu.row]; omega, by dsimp only [Mxu.row]; omega⟩
    · rw [if_neg e] at hc
      have := h.dead q' p' c' hc r
      split
      · rfl
      · exact this
  row := fun q' p' c' u hu => by
    rw [cond3] at hu
    by_cases e : q' = q ∧ p' = p ∧ c' = c
    · rw [if_pos e] at hu; cases hu
    · rw [if_neg e] at hu
      rw [Mxu.read_pop_ne _ _ _ _ _ _ _ (apart e)]
      exact h.row q' p' c' u hu

/-- Named empty, the matrix units are drained. -/
theorem MRel.drained (h : MRel D reg gmr row M) (hr : ∀ q r, reg q r = none) (hl : ∀ q p c, row q p c = none) : M.Drained := by
  refine ⟨fun q r => ?_, fun q R => ?_⟩
  · rw [h.reg, hr]; rfl
  · have hR := R.isLt
    have := h.dead q ⟨R.val / 512, by omega⟩ ⟨R.val % 512 / 32, by omega⟩ (hl _ _ _) ⟨R.val % 32, by omega⟩
    rw [← this]
    congr 1
    apply Fin.ext
    dsimp only [Mxu.row]
    omega

/-- All the registers match the names. -/
structure Rel (D : Env F) (σ : Sy) (M : Mxu F) (s00 s01 s10 s11 t w : FVec F T1 .f32) (L : FVec F T32 .fp8e4m3)
    (X : FVec F T256 .bf16) (a b : FVec F T32 .f32) : Prop where
  m : MRel D σ.reg σ.gmr σ.row M
  s00 : ∀ v, σ.s00 = some v → s00 = D.srow v
  s01 : ∀ v, σ.s01 = some v → s01 = D.srow v
  s10 : ∀ v, σ.s10 = some v → s10 = D.srow v
  s11 : ∀ v, σ.s11 = some v → s11 = D.srow v
  t : ∀ v, σ.t = some v → t = D.sx v.j v.tt
  w : ∀ v, σ.w = some v → w = broadcast T1 (D.sw v.j v.nt v.h)
  L : ∀ v, σ.L = some v → L = D.wt v.nt v.c v.j
  X : ∀ v, σ.X = some v → X = D.tile v
  a : ∀ v, σ.a = some v → D.Is v a
  b : ∀ v, σ.b = some v → D.Is v b

theorem Rel.init (D : Env F) (s00 s01 s10 s11 t w : FVec F T1 .f32) (L : FVec F T32 .fp8e4m3)
    (X : FVec F T256 .bf16) (a b : FVec F T32 .f32) : Rel D Sy.init Mxu.init s00 s01 s10 s11 t w L X a b where
  m := MRel.init D
  s00 := nofun
  s01 := nofun
  s10 := nofun
  s11 := nofun
  t := nofun
  w := nofun
  L := nofun
  X := nofun
  a := nofun
  b := nofun

end Cert.Mm
-- ==== Proof.Exec.lean ====
module
public import proofs.«01_k».proof.Proof.Sound
public import Idealize.ShloMosaic.Lib.Pipeline.Kit
public import Idealize.ShloMosaic.Lib.Tactic
/-!
# The names are right: the run

Every operation of the list takes a state that matches the names to one that matches the names after it; so the whole list
fills the result, and leaves the matrix units drained.
-/
@[expose] public section
noncomputable section
namespace Cert.Mm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F] {Λ : Labels}
variable {Ix : Type} [DecidableEq Ix] {Name : Type} [DecidableEq Name] {U : Type} [URA U] {Lvl : Type} [Preorder Lvl]

local notation "𝕄" => MT nD τ sig Ix (Elt F) Name U Lvl

abbrev rX (tt : Fin 2) (j : Fin 18) : Rect SX := Rect.unit (s := SX) ![256 * tt.val, 256 * j.val] T256.size (inbX tt j)
abbrev rL (nt : Fin 4) (c : Fin 16) (j : Fin 18) : Rect SWT :=
  Rect.unit (s := SWT) ![512 * nt.val + 32 * c.val, 256 * j.val] T32.size (inbL nt c j)
abbrev rA (c : Fin 16) : Rect SA := Rect.unit (s := SA) ![32 * c.val, 0] T32.size (inbA c)
abbrev rO (x : Fin 4) (z : Fin 2) : Rect SA := Rect.unit (s := SA) ![128 * x.val, 128 * z.val] T128.size (inbO x z)
abbrev rY (tt : Fin 2) (nt : Fin 4) (x : Fin 4) (z : Fin 2) : Rect SY :=
  Rect.unit (s := SY) ![256 * tt.val + 128 * z.val, 512 * nt.val + 128 * x.val] T128.size (inbY tt nt x z)
abbrev rS (j : Fin 18) (tt : Fin 2) : Rect SSX := Rect.unit (s := SSX) ![j.val, 256 * tt.val] T1.size (inbS j tt)
abbrev rW (i0 : Fin 18) (j : Fin 18) (nt : Fin 4) (h : Fin 2) : Rect SSW := Rect.unit (s := SSW) (offW i0 j nt h) U1.size (inbW i0 j nt h)

/-- What the body only reads. -/
structure Ins (F : FTy → Type) [FloatOps F] (B : Bufs sig) where
  sw : BufTy.Contents (Elt F) B.sw.view.ty
  x : BufTy.Contents (Elt F) B.x.view.ty
  sx : BufTy.Contents (Elt F) B.sx.view.ty
  wt : BufTy.Contents (Elt F) B.wt.view.ty

/-- What it writes. -/
structure Outs (F : FTy → Type) [FloatOps F] (B : Bufs sig) where
  acc : BufTy.Contents (Elt F) B.acc.view.ty
  out : BufTy.Contents (Elt F) B.out.view.ty
  y : BufTy.Contents (Elt F) B.y.view.ty

/-- The values the body meets, off its buffers. -/
def envOf (B : Bufs sig) (i0 : Fin 18) (f : Ins F B) : Env F where
  wt := fun nt c j => B.wt.view.readAt (Elt F) (rL nt c j).toLoadRect f.wt
  x := fun tt j => B.x.view.readAt (Elt F) (rX tt j).toLoadRect f.x
  sx := fun j tt => B.sx.view.readAt (Elt F) (rS j tt).toLoadRect f.sx
  sw := fun j nt h => (B.sw.access (rW i0 j nt h)).read (Elt F) f.sw (Shape.Idx.first (numelU1.symm ▸ Nat.one_pos))

/-- The buffers match the names. -/
structure Bok (D : Env F) (B : Bufs sig) (σ : Sy) (g : Outs F B) : Prop where
  acc : ∀ c u, σ.acc c = some u → u.c = c ∧ B.acc.view.readAt (Elt F) (rA c).toLoadRect g.acc = D.part u.tt u.nt u.c u.r
  out : ∀ c u, σ.out c = some u → B.out.view.readAt (Elt F) (rA c).toLoadRect g.out = truncf .bf16 (D.part u.tt u.nt c 8) lt16
  y : ∀ tt nt x z, σ.y tt nt x z = true → B.y.view.readAt (Elt F) (rY tt nt x z).toLoadRect g.y = D.blk tt nt x z

/-- The buffers, and whatever else. -/
abbrev Hold (B : Bufs sig) (c : Dev nD) (f : Ins F B) (g : Outs F B) (R : sProp 𝕄) : sProp 𝕄 :=
  iprop((B.sw.view.loc (c : Thread nD τ) ↦[B.sw.view.set]{fullShare} f.sw) ∗ (B.x.view.loc (c : Thread nD τ) ↦[B.x.view.set]{fullShare} f.x) ∗
    (B.sx.view.loc (c : Thread nD τ) ↦[B.sx.view.set]{fullShare} f.sx) ∗ (B.wt.view.loc (c : Thread nD τ) ↦[B.wt.view.set]{fullShare} f.wt) ∗
    (B.acc.view.loc (c : Thread nD τ) ↦[B.acc.view.set]{fullShare} g.acc) ∗ (B.out.view.loc (c : Thread nD τ) ↦[B.out.view.set]{fullShare} g.out) ∗
    (B.y.view.loc (c : Thread nD τ) ↦[B.y.view.set]{fullShare} g.y) ∗ R)

theorem slice_sub {κ : Kind} {sp : Space} {s : Shape} {e : EltTy} (v : View sig κ sp s e) (r : Rect s) : (v.slice r).set ⊆ v.set := by
  rw [View.set_slice]; exact v.setOn_subset_set r.set

/-- After a write through a rectangle, that rectangle reads what was written; -/
theorem read_same {κ : Kind} {sp : Space} {s : Shape} {e : EltTy} (v : View sig κ sp s e) {Val : EltTy → Type} (r : Rect s)
    (f : v.ty.Contents Val) (w : r.shape.Idx → Val e) :
    v.readAt Val r.toLoadRect ((v.slice r).write Val f w Finset.univ) = w :=
  View.read_write_univ (v := v.slice r) f w

/-- a rectangle apart from it on some axis reads the old contents. -/
theorem read_apart {κ : Kind} {sp : Space} {s : Shape} {e : EltTy} (v : View sig κ sp s e) {Val : EltTy → Type}
    {off off' size : Fin s.rank → Nat} (inb : ∀ a, off a + size a ≤ s.size a) (inb' : ∀ a, off' a + size a ≤ s.size a)
    (f : v.ty.Contents Val) (w : (Rect.unit off size inb).shape.Idx → Val e)
    (h : ∃ a, off' a + size a ≤ off a ∨ off a + size a ≤ off' a) :
    v.readAt Val (Rect.unit off' size inb').toLoadRect ((v.slice (Rect.unit off size inb)).write Val f w Finset.univ) =
      v.readAt Val (Rect.unit off' size inb').toLoadRect f := by
  funext x
  refine View.read_slice_write_of_not_mem _ _ _ _ ?_
  rw [Rect.map_emb_univ, Rect.mem_set_unit]
  intro hall
  obtain ⟨a, ha⟩ := h
  have h1 := hall a
  have h2 : ((Rect.unit off' size inb').toLoadRect.idx x a).val = off' a + 1 * (x a).val := rfl
  have h3 : (x a).val < size a := (x a).isLt
  omega

theorem rA_apart {c c' : Fin 16} (h : c' ≠ c) :
    ∃ a : Fin SA.rank, (![32 * c'.val, 0] : Fin 2 → Nat) a + T32.size a ≤ (![32 * c.val, 0] : Fin 2 → Nat) a ∨
      (![32 * c.val, 0] : Fin 2 → Nat) a + T32.size a ≤ (![32 * c'.val, 0] : Fin 2 → Nat) a := by
  refine ⟨0, ?_⟩
  have : c'.val ≠ c.val := fun e => h (Fin.ext e)
  show 32 * c'.val + 32 ≤ 32 * c.val ∨ 32 * c.val + 32 ≤ 32 * c'.val
  omega

theorem rY_apart {tt tt' : Fin 2} {nt nt' : Fin 4} {x x' : Fin 4} {z z' : Fin 2} (h : ¬(tt' = tt ∧ nt' = nt ∧ x' = x ∧ z' = z)) :
    ∃ a : Fin SY.rank, (![256 * tt'.val + 128 * z'.val, 512 * nt'.val + 128 * x'.val] : Fin 2 → Nat) a + T128.size a ≤
        (![256 * tt.val + 128 * z.val, 512 * nt.val + 128 * x.val] : Fin 2 → Nat) a ∨
      (![256 * tt.val + 128 * z.val, 512 * nt.val + 128 * x.val] : Fin 2 → Nat) a + T128.size a ≤
        (![256 * tt'.val + 128 * z'.val, 512 * nt'.val + 128 * x'.val] : Fin 2 → Nat) a := by
  by_cases h1 : tt'.val = tt.val ∧ z'.val = z.val
  · have h2 : ¬(nt'.val = nt.val ∧ x'.val = x.val) := fun e => h ⟨Fin.ext h1.1, Fin.ext e.1, Fin.ext e.2, Fin.ext h1.2⟩
    refine ⟨1, ?_⟩
    show 512 * nt'.val + 128 * x'.val + 128 ≤ 512 * nt.val + 128 * x.val ∨ 512 * nt.val + 128 * x.val + 128 ≤ 512 * nt'.val + 128 * x'.val
    omega
  · refine ⟨0, ?_⟩
    show 256 * tt'.val + 128 * z'.val + 128 ≤ 256 * tt.val + 128 * z.val ∨ 256 * tt.val + 128 * z.val + 128 ≤ 256 * tt'.val + 128 * z'.val
    omega

variable {D : Env F} {B : Bufs sig} {σ : Sy} {g : Outs F B}

/-- A chunk of partial sums stored. -/
theorem Bok.stA (h : Bok D B σ g) {c : Fin 16} {u : SumTag} (hc : u.c = c) :
    Bok D B { σ with acc := fun c' => cond (feq c' c) (some u) (σ.acc c') }
      { g with acc := (B.acc.access (rA c)).write (Elt F) g.acc (D.part u.tt u.nt u.c u.r) Finset.univ } where
  acc := fun c' u' hu => by
    by_cases e : c' = c
    · subst e
      simp only [feq_iff.mpr rfl, cond_true, Option.some.injEq] at hu
      subst hu
      exact ⟨hc, read_same _ _ _ _⟩
    · simp only [feq_false.mpr e, cond_false] at hu
      have := h.acc c' u' hu
      exact ⟨this.1, (read_apart _ _ _ _ _ (rA_apart e)).trans this.2⟩
  out := h.out
  y := h.y

/-- A finished chunk stored. -/
theorem Bok.stO (h : Bok D B σ g) {c : Fin 16} {u : SumTag} (hc : u.c = c) (hr : u.r = 8) :
    Bok D B { σ with out := fun c' => cond (feq c' c) (some u) (σ.out c') }
      { g with out := (B.out.access (rA c)).write (Elt F) g.out (truncf .bf16 (D.part u.tt u.nt u.c u.r) lt16) Finset.univ } where
  acc := h.acc
  out := fun c' u' hu => by
    by_cases e : c' = c
    · subst e
      simp only [feq_iff.mpr rfl, cond_true, Option.some.injEq] at hu
      subst hu
      rw [← hr, ← hc]
      subst hc
      exact read_same _ _ _ _
    · simp only [feq_false.mpr e, cond_false] at hu
      exact (read_apart _ _ _ _ _ (rA_apart e)).trans (h.out c' u' hu)
  y := h.y

/-- A block of the scratch is four chunks' columns. -/
theorem read_out (h : Bok D B σ g) {tt : Fin 2} {nt : Fin 4} {x : Fin 4} {z : Fin 2}
    (ho : ∀ k : Fin 4, ∃ u, σ.out ⟨4 * x.val + k.val, by omega⟩ = some u ∧ u.tt = tt ∧ u.nt = nt) :
    transpose T128 [1, 0] (B.out.view.readAt (Elt F) (rO x z).toLoadRect g.out) tr128 = D.blk tt nt x z := by
  funext i
  have h0 : (i 0).val < 128 := (i 0).isLt
  have h1 : (i 1).val < 128 := (i 1).isLt
  obtain ⟨u, hu, rfl, rfl⟩ := ho ⟨(i 1).val / 32, by omega⟩
  have := congrFun (h.out _ u hu) (Mxu.ix (m := 32) (n := 256) ⟨(i 1).val % 32, by omega⟩ ⟨128 * z.val + (i 0).val, by omega⟩)
  refine Eq.trans ?_ this
  show B.out.view.read (Elt F) g.out _ = B.out.view.read (Elt F) g.out _
  congr 1
  funext a
  apply Fin.ext
  match a with
  | 0 =>
    show 128 * x.val + 1 * (i 1).val = 32 * (4 * x.val + (i 1).val / 32) + 1 * ((i 1).val % 32)
    omega
  | 1 =>
    show 128 * z.val + 1 * (i 0).val = 0 + 1 * (128 * z.val + (i 0).val)
    omega

/-- A block transposed out. -/
theorem Bok.emit (h : Bok D B σ g) {tt : Fin 2} {nt : Fin 4} {x : Fin 4} {z : Fin 2} {w : FVec F T128 .bf16} (hw : w = D.blk tt nt x z) :
    Bok D B { σ with y := fun tt' nt' x' z' => cond (feq tt' tt && (feq nt' nt && (feq x' x && feq z' z))) true (σ.y tt' nt' x' z') }
      { g with y := (B.y.access (rY tt nt x z)).write (Elt F) g.y w Finset.univ } where
  acc := h.acc
  out := h.out
  y := fun tt' nt' x' z' hy => by
    by_cases e : tt' = tt ∧ nt' = nt ∧ x' = x ∧ z' = z
    · obtain ⟨rfl, rfl, rfl, rfl⟩ := e
      rw [← hw]
      exact read_same _ _ _ _
    · refine (read_apart _ _ _ _ _ (rY_apart e)).trans (h.y tt' nt' x' z' ?_)
      have hb : (feq tt' tt && (feq nt' nt && (feq x' x && feq z' z))) = false := by
        rw [← Bool.not_eq_true]
        intro hb
        simp only [Bool.and_eq_true, feq_iff] at hb
        exact e hb
      simpa only [hb, cond_false] using hy
end Cert.Mm
-- ==== Proof.ExecRun.lean ====
module
public import proofs.«01_k».proof.Proof.Exec
public import Idealize.ShloMosaic.Lib.Pipeline.Value
/-!
# The run of the operation list
-/
@[expose] public section
noncomputable section
namespace Cert.Mm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F] {Λ : Labels}
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ} {𝒱 : Variants} {c : Dev nD} {bd : Option 𝒱.V} {E : Set Name}
variable {α : Type} {B : Bufs sig} {i0 : Fin 18} {f : Ins F B}

/-- The continuation, from any state that matches the names. -/
def Good (defs : Defs nD τ sig (Elt F) Λ) (𝒱 : Variants) (c : Dev nD) (bd : Option 𝒱.V) (E : Set Name) (B : Bufs sig) (i0 : Fin 18)
    (f : Ins F B) (R : sProp 𝕄) (Q : α → sProp 𝕄) (σ : Sy) (k : Cont nD τ sig F Λ α) : Prop :=
  ∀ M s00 s01 s10 s11 t w L X a b g, Rel (envOf B i0 f) σ M s00 s01 s10 s11 t w L X a b → Bok (envOf B i0 f) B σ g →
    (Hold B c f g R ⊢ wp (M := 𝕄) frame (wpE defs 𝒱 (c : Thread nD τ) bd) E (k M s00 s01 s10 s11 t w L X a b) Q)

/-- The weakest precondition, the clauses named. -/
abbrev WPa (defs : Defs nD τ sig (Elt F) Λ) (𝒱 : Variants) (c : Dev nD) (bd : Option 𝒱.V) (E : Set Name) (Q : α → sProp 𝕄)
    (p : Prog (TpuEff nD τ sig (Elt F) Λ .tc) α) : sProp 𝕄 := wp (M := 𝕄) frame (wpE defs 𝒱 (c : Thread nD τ) bd) E p Q

/-- A load, from the buffers as a whole: one buffer out, and back. -/
theorem ld {sp : CoreSpace} {s : Shape} {e : EltTy} {m : Memref sig .tc sp s e} {r : LoadRect s} {h : m.view.LoadsAt r}
    {k : (r.shape.Idx → Elt F e) → Prog (TpuEff nD τ sig (Elt F) Λ .tc) α} {Q : α → sProp 𝕄} {P S : sProp 𝕄} (fl : BufTy.Contents (Elt F) m.view.ty)
    (h1 : P ⊢ iprop((m.view.loc (c : Thread nD τ) ↦[m.view.set]{fullShare} fl) ∗ S))
    (h2 : iprop((m.view.loc (c : Thread nD τ) ↦[m.view.set]{fullShare} fl) ∗ S) ⊢ P)
    (hk : P ⊢ WPa defs 𝒱 c bd E Q (k (m.view.readAt (Elt F) r fl))) : P ⊢ WPa defs 𝒱 c bd E Q (Prog.op (.load m r h) k) := by
  refine h1.trans ?_
  iintro ⟨H, HS⟩
  iapply (wp_load 𝒱 (c : Thread nD τ) bd E (m := m) (r := r) (S := m.view.set) (View.setOn_subset_set _ _)) $$ H
  iintro H
  iapply (h2.trans hk)
  isplitl [H]
  · iexact H
  · iexact HS

/-- A store of a whole rectangle. -/
theorem st {sp : CoreSpace} {s : Shape} {e : EltTy} {m : Memref sig .tc sp s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ .tc) α} {Q : α → sProp 𝕄} {P P' S : sProp 𝕄} (fl : BufTy.Contents (Elt F) m.view.ty)
    (h1 : P ⊢ iprop((m.view.loc (c : Thread nD τ) ↦[m.view.set]{fullShare} fl) ∗ S))
    (h2 : iprop((m.view.loc (c : Thread nD τ) ↦[m.view.set]{fullShare} ((m.access r).write (Elt F) fl w Finset.univ)) ∗ S) ⊢ P')
    (hk : P' ⊢ WPa defs 𝒱 c bd E Q (k ⟨⟩)) : P ⊢ WPa defs 𝒱 c bd E Q (Prog.op (.store m r w Finset.univ hx hm) k) := by
  refine h1.trans ?_
  iintro ⟨H, HS⟩
  iapply (wp_store 𝒱 (c : Thread nD τ) bd E (m := m) (r := r) (S := m.view.set) (slice_sub _ _)) $$ H
  iintro H
  iapply (h2.trans hk)
  isplitl [H]
  · iexact H
  · iexact HS

/-- The buffers but one, whatever the one. -/
abbrev rest_sw (c : Dev nD) (f : Ins F B) (g : Outs F B) (R : sProp 𝕄) : sProp 𝕄 :=
  iprop((B.x.view.loc (c : Thread nD τ) ↦[B.x.view.set]{fullShare} f.x) ∗ (B.sx.view.loc (c : Thread nD τ) ↦[B.sx.view.set]{fullShare} f.sx) ∗ (B.wt.view.loc (c : Thread nD τ) ↦[B.wt.view.set]{fullShare} f.wt) ∗ (B.acc.view.loc (c : Thread nD τ) ↦[B.acc.view.set]{fullShare} g.acc) ∗ (B.out.view.loc (c : Thread nD τ) ↦[B.out.view.set]{fullShare} g.out) ∗ (B.y.view.loc (c : Thread nD τ) ↦[B.y.view.set]{fullShare} g.y) ∗ R)
theorem out_sw {R : sProp 𝕄} {g : Outs F B} : (Hold B c f g R : sProp 𝕄) ⊢ iprop((B.sw.view.loc (c : Thread nD τ) ↦[B.sw.view.set]{fullShare} f.sw) ∗ rest_sw c f g R) := by
  iintro ⟨Hsw, Hx, Hsx, Hwt, Hacc, Hout, Hy, HR⟩
  isplitl [Hsw]
  · iexact Hsw
  isplitl [Hx]
  · iexact Hx
  isplitl [Hsx]
  · iexact Hsx
  isplitl [Hwt]
  · iexact Hwt
  isplitl [Hacc]
  · iexact Hacc
  isplitl [Hout]
  · iexact Hout
  isplitl [Hy]
  · iexact Hy
  iexact HR
theorem in_sw {R : sProp 𝕄} {g : Outs F B} :
    (iprop((B.sw.view.loc (c : Thread nD τ) ↦[B.sw.view.set]{fullShare} f.sw) ∗ rest_sw c f g R) : sProp 𝕄) ⊢ Hold B c f g R := by
  iintro ⟨Hsw, Hx, Hsx, Hwt, Hacc, Hout, Hy, HR⟩
  isplitl [Hsw]
  · iexact Hsw
  isplitl [Hx]
  · iexact Hx
  isplitl [Hsx]
  · iexact Hsx
  isplitl [Hwt]
  · iexact Hwt
  isplitl [Hacc]
  · iexact Hacc
  isplitl [Hout]
  · iexact Hout
  isplitl [Hy]
  · iexact Hy
  iexact HR

abbrev rest_x (c : Dev nD) (f : Ins F B) (g : Outs F B) (R : sProp 𝕄) : sProp 𝕄 :=
  iprop((B.sw.view.loc (c : Thread nD τ) ↦[B.sw.view.set]{fullShare} f.sw) ∗ (B.sx.view.loc (c : Thread nD τ) ↦[B.sx.view.set]{fullShare} f.sx) ∗ (B.wt.view.loc (c : Thread nD τ) ↦[B.wt.view.set]{fullShare} f.wt) ∗ (B.acc.view.loc (c : Thread nD τ) ↦[B.acc.view.set]{fullShare} g.acc) ∗ (B.out.view.loc (c : Thread nD τ) ↦[B.out.view.set]{fullShare} g.out) ∗ (B.y.view.loc (c : Thread nD τ) ↦[B.y.view.set]{fullShare} g.y) ∗ R)
theorem out_x {R : sProp 𝕄} {g : Outs F B} : (Hold B c f g R : sProp 𝕄) ⊢ iprop((B.x.view.loc (c : Thread nD τ) ↦[B.x.view.set]{fullShare} f.x) ∗ rest_x c f g R) := by
  iintro ⟨Hsw, Hx, Hsx, Hwt, Hacc, Hout, Hy, HR⟩
  isplitl [Hx]
  · iexact Hx
  isplitl [Hsw]
  · iexact Hsw
  isplitl [Hsx]
  · iexact Hsx
  isplitl [Hwt]
  · iexact Hwt
  isplitl [Hacc]
  · iexact Hacc
  isplitl [Hout]
  · iexact Hout
  isplitl [Hy]
  · iexact Hy
  iexact HR
theorem in_x {R : sProp 𝕄} {g : Outs F B} :
    (iprop((B.x.view.loc (c : Thread nD τ) ↦[B.x.view.set]{fullShare} f.x) ∗ rest_x c f g R) : sProp 𝕄) ⊢ Hold B c f g R := by
  iintro ⟨Hx, Hsw, Hsx, Hwt, Hacc, Hout, Hy, HR⟩
  isplitl [Hsw]
  · iexact Hsw
  isplitl [Hx]
  · iexact Hx
  isplitl [Hsx]
  · iexact Hsx
  isplitl [Hwt]
  · iexact Hwt
  isplitl [Hacc]
  · iexact Hacc
  isplitl [Hout]
  · iexact Hout
  isplitl [Hy]
  · iexact Hy
  iexact HR

abbrev rest_sx (c : Dev nD) (f : Ins F B) (g : Outs F B) (R : sProp 𝕄) : sProp 𝕄 :=
  iprop((B.sw.view.loc (c : Thread nD τ) ↦[B.sw.view.set]{fullShare} f.sw) ∗ (B.x.view.loc (c : Thread nD τ) ↦[B.x.view.set]{fullShare} f.x) ∗ (B.wt.view.loc (c : Thread nD τ) ↦[B.wt.view.set]{fullShare} f.wt) ∗ (B.acc.view.loc (c : Thread nD τ) ↦[B.acc.view.set]{fullShare} g.acc) ∗ (B.out.view.loc (c : Thread nD τ) ↦[B.out.view.set]{fullShare} g.out) ∗ (B.y.view.loc (c : Thread nD τ) ↦[B.y.view.set]{fullShare} g.y) ∗ R)
theorem out_sx {R : sProp 𝕄} {g : Outs F B} : (Hold B c f g R : sProp 𝕄) ⊢ iprop((B.sx.view.loc (c : Thread nD τ) ↦[B.sx.view.set]{fullShare} f.sx) ∗ rest_sx c f g R) := by
  iintro ⟨Hsw, Hx, Hsx, Hwt, Hacc, Hout, Hy, HR⟩
  isplitl [Hsx]
  · iexact Hsx
  isplitl [Hsw]
  · iexact Hsw
  isplitl [Hx]
  · iexact Hx
  isplitl [Hwt]
  · iexact Hwt
  isplitl [Hacc]
  · iexact Hacc
  isplitl [Hout]
  · iexact Hout
  isplitl [Hy]
  · iexact Hy
  iexact HR
theorem in_sx {R : sProp 𝕄} {g : Outs F B} :
    (iprop((B.sx.view.loc (c : Thread nD τ) ↦[B.sx.view.set]{fullShare} f.sx) ∗ rest_sx c f g R) : sProp 𝕄) ⊢ Hold B c f g R := by
  iintro ⟨Hsx, Hsw, Hx, Hwt, Hacc, Hout, Hy, HR⟩
  isplitl [Hsw]
  · iexact Hsw
  isplitl [Hx]
  · iexact Hx
  isplitl [Hsx]
  · iexact Hsx
  isplitl [Hwt]
  · iexact Hwt
  isplitl [Hacc]
  · iexact Hacc
  isplitl [Hout]
  · iexact Hout
  isplitl [Hy]
  · iexact Hy
  iexact HR

abbrev rest_wt (c : Dev nD) (f : Ins F B) (g : Outs F B) (R : sProp 𝕄) : sProp 𝕄 :=
  iprop((B.sw.view.loc (c : Thread nD τ) ↦[B.sw.view.set]{fullShare} f.sw) ∗ (B.x.view.loc (c : Thread nD τ) ↦[B.x.view.set]{fullShare} f.x) ∗ (B.sx.view.loc (c : Thread nD τ) ↦[B.sx.view.set]{fullShare} f.sx) ∗ (B.acc.view.loc (c : Thread nD τ) ↦[B.acc.view.set]{fullShare} g.acc) ∗ (B.out.view.loc (c : Thread nD τ) ↦[B.out.view.set]{fullShare} g.out) ∗ (B.y.view.loc (c : Thread nD τ) ↦[B.y.view.set]{fullShare} g.y) ∗ R)
theorem out_wt {R : sProp 𝕄} {g : Outs F B} : (Hold B c f g R : sProp 𝕄) ⊢ iprop((B.wt.view.loc (c : Thread nD τ) ↦[B.wt.view.set]{fullShare} f.wt) ∗ rest_wt c f g R) := by
  iintro ⟨Hsw, Hx, Hsx, Hwt, Hacc, Hout, Hy, HR⟩
  isplitl [Hwt]
  · iexact Hwt
  isplitl [Hsw]
  · iexact Hsw
  isplitl [Hx]
  · iexact Hx
  isplitl [Hsx]
  · iexact Hsx
  isplitl [Hacc]
  · iexact Hacc
  isplitl [Hout]
  · iexact Hout
  isplitl [Hy]
  · iexact Hy
  iexact HR
theorem in_wt {R : sProp 𝕄} {g : Outs F B} :
    (iprop((B.wt.view.loc (c : Thread nD τ) ↦[B.wt.view.set]{fullShare} f.wt) ∗ rest_wt c f g R) : sProp 𝕄) ⊢ Hold B c f g R := by
  iintro ⟨Hwt, Hsw, Hx, Hsx, Hacc, Hout, Hy, HR⟩
  isplitl [Hsw]
  · iexact Hsw
  isplitl [Hx]
  · iexact Hx
  isplitl [Hsx]
  · iexact Hsx
  isplitl [Hwt]
  · iexact Hwt
  isplitl [Hacc]
  · iexact Hacc
  isplitl [Hout]
  · iexact Hout
  isplitl [Hy]
  · iexact Hy
  iexact HR

abbrev rest_acc (c : Dev nD) (f : Ins F B) (g : Outs F B) (R : sProp 𝕄) : sProp 𝕄 :=
  iprop((B.sw.view.loc (c : Thread nD τ) ↦[B.sw.view.set]{fullShare} f.sw) ∗ (B.x.view.loc (c : Thread nD τ) ↦[B.x.view.set]{fullShare} f.x) ∗ (B.sx.view.loc (c : Thread nD τ) ↦[B.sx.view.set]{fullShare} f.sx) ∗ (B.wt.view.loc (c : Thread nD τ) ↦[B.wt.view.set]{fullShare} f.wt) ∗ (B.out.view.loc (c : Thread nD τ) ↦[B.out.view.set]{fullShare} g.out) ∗ (B.y.view.loc (c : Thread nD τ) ↦[B.y.view.set]{fullShare} g.y) ∗ R)
theorem out_acc {R : sProp 𝕄} {g : Outs F B} : (Hold B c f g R : sProp 𝕄) ⊢ iprop((B.acc.view.loc (c : Thread nD τ) ↦[B.acc.view.set]{fullShare} g.acc) ∗ rest_acc c f g R) := by
  iintro ⟨Hsw, Hx, Hsx, Hwt, Hacc, Hout, Hy, HR⟩
  isplitl [Hacc]
  · iexact Hacc
  isplitl [Hsw]
  · iexact Hsw
  isplitl [Hx]
  · iexact Hx
  isplitl [Hsx]
  · iexact Hsx
  isplitl [Hwt]
  · iexact Hwt
  isplitl [Hout]
  · iexact Hout
  isplitl [Hy]
  · iexact Hy
  iexact HR
theorem in_acc {R : sProp 𝕄} {g : Outs F B} {v : BufTy.Contents (Elt F) B.acc.view.ty} :
    (iprop((B.acc.view.loc (c : Thread nD τ) ↦[B.acc.view.set]{fullShare} v) ∗ rest_acc c f g R) : sProp 𝕄) ⊢ Hold B c f { g with acc := v } R := by
  iintro ⟨Hacc, Hsw, Hx, Hsx, Hwt, Hout, Hy, HR⟩
  isplitl [Hsw]
  · iexact Hsw
  isplitl [Hx]
  · iexact Hx
  isplitl [Hsx]
  · iexact Hsx
  isplitl [Hwt]
  · iexact Hwt
  isplitl [Hacc]
  · iexact Hacc
  isplitl [Hout]
  · iexact Hout
  isplitl [Hy]
  · iexact Hy
  iexact HR

abbrev rest_out (c : Dev nD) (f : Ins F B) (g : Outs F B) (R : sProp 𝕄) : sProp 𝕄 :=
  iprop((B.sw.view.loc (c : Thread nD τ) ↦[B.sw.view.set]{fullShare} f.sw) ∗ (B.x.view.loc (c : Thread nD τ) ↦[B.x.view.set]{fullShare} f.x) ∗ (B.sx.view.loc (c : Thread nD τ) ↦[B.sx.view.set]{fullShare} f.sx) ∗ (B.wt.view.loc (c : Thread nD τ) ↦[B.wt.view.set]{fullShare} f.wt) ∗ (B.acc.view.loc (c : Thread nD τ) ↦[B.acc.view.set]{fullShare} g.acc) ∗ (B.y.view.loc (c : Thread nD τ) ↦[B.y.view.set]{fullShare} g.y) ∗ R)
theorem out_out {R : sProp 𝕄} {g : Outs F B} : (Hold B c f g R : sProp 𝕄) ⊢ iprop((B.out.view.loc (c : Thread nD τ) ↦[B.out.view.set]{fullShare} g.out) ∗ rest_out c f g R) := by
  iintro ⟨Hsw, Hx, Hsx, Hwt, Hacc, Hout, Hy, HR⟩
  isplitl [Hout]
  · iexact Hout
  isplitl [Hsw]
  · iexact Hsw
  isplitl [Hx]
  · iexact Hx
  isplitl [Hsx]
  · iexact Hsx
  isplitl [Hwt]
  · iexact Hwt
  isplitl [Hacc]
  · iexact Hacc
  isplitl [Hy]
  · iexact Hy
  iexact HR
theorem in_out {R : sProp 𝕄} {g : Outs F B} {v : BufTy.Contents (Elt F) B.out.view.ty} :
    (iprop((B.out.view.loc (c : Thread nD τ) ↦[B.out.view.set]{fullShare} v) ∗ rest_out c f g R) : sProp 𝕄) ⊢ Hold B c f { g with out := v } R := by
  iintro ⟨Hout, Hsw, Hx, Hsx, Hwt, Hacc, Hy, HR⟩
  isplitl [Hsw]
  · iexact Hsw
  isplitl [Hx]
  · iexact Hx
  isplitl [Hsx]
  · iexact Hsx
  isplitl [Hwt]
  · iexact Hwt
  isplitl [Hacc]
  · iexact Hacc
  isplitl [Hout]
  · iexact Hout
  isplitl [Hy]
  · iexact Hy
  iexact HR

abbrev rest_y (c : Dev nD) (f : Ins F B) (g : Outs F B) (R : sProp 𝕄) : sProp 𝕄 :=
  iprop((B.sw.view.loc (c : Thread nD τ) ↦[B.sw.view.set]{fullShare} f.sw) ∗ (B.x.view.loc (c : Thread nD τ) ↦[B.x.view.set]{fullShare} f.x) ∗ (B.sx.view.loc (c : Thread nD τ) ↦[B.sx.view.set]{fullShare} f.sx) ∗ (B.wt.view.loc (c : Thread nD τ) ↦[B.wt.view.set]{fullShare} f.wt) ∗ (B.acc.view.loc (c : Thread nD τ) ↦[B.acc.view.set]{fullShare} g.acc) ∗ (B.out.view.loc (c : Thread nD τ) ↦[B.out.view.set]{fullShare} g.out) ∗ R)
theorem out_y {R : sProp 𝕄} {g : Outs F B} : (Hold B c f g R : sProp 𝕄) ⊢ iprop((B.y.view.loc (c : Thread nD τ) ↦[B.y.view.set]{fullShare} g.y) ∗ rest_y c f g R) := by
  iintro ⟨Hsw, Hx, Hsx, Hwt, Hacc, Hout, Hy, HR⟩
  isplitl [Hy]
  · iexact Hy
  isplitl [Hsw]
  · iexact Hsw
  isplitl [Hx]
  · iexact Hx
  isplitl [Hsx]
  · iexact Hsx
  isplitl [Hwt]
  · iexact Hwt
  isplitl [Hacc]
  · iexact Hacc
  isplitl [Hout]
  · iexact Hout
  iexact HR
theorem in_y {R : sProp 𝕄} {g : Outs F B} {v : BufTy.Contents (Elt F) B.y.view.ty} :
    (iprop((B.y.view.loc (c : Thread nD τ) ↦[B.y.view.set]{fullShare} v) ∗ rest_y c f g R) : sProp 𝕄) ⊢ Hold B c f { g with y := v } R := by
  iintro ⟨Hy, Hsw, Hx, Hsx, Hwt, Hacc, Hout, HR⟩
  isplitl [Hsw]
  · iexact Hsw
  isplitl [Hx]
  · iexact Hx
  isplitl [Hsx]
  · iexact Hsx
  isplitl [Hwt]
  · iexact Hwt
  isplitl [Hacc]
  · iexact Hacc
  isplitl [Hout]
  · iexact Hout
  isplitl [Hy]
  · iexact Hy
  iexact HR

variable {k : Cont nD τ sig F Λ α} {σ σ' : Sy}

/-- One operation: a continuation good after it is good before it. -/
theorem Good.step {Q : α → sProp 𝕄} {R : sProp 𝕄} (hk : Good defs 𝒱 c bd E B i0 f R Q σ' k) (o : Op) (hs : o.step σ = some σ') :
    Good defs 𝒱 c bd E B i0 f R Q σ (o.run B i0 k) := by
  intro M s00 s01 s10 s11 t w L X a b g hR hB
  obtain ⟨reg, gmr, row, σ00, σ01, σ10, σ11, σt, σw, σL, σX, σa, σb, σacc, σout, σy⟩ := σ
  cases o with
  | ldL nt cc j =>
    cases hs
    refine ld f.wt out_wt in_wt (hk _ _ _ _ _ _ _ _ _ _ _ _ ?_ ⟨hB.acc, hB.out, hB.y⟩)
    exact { hR with L := fun v hv => by cases hv; rfl }
  | ldX tt j =>
    cases hs
    refine ld f.x out_x in_x (hk _ _ _ _ _ _ _ _ _ _ _ _ ?_ ⟨hB.acc, hB.out, hB.y⟩)
    exact { hR with X := fun v hv => by cases hv; rfl }
  | ldS j tt =>
    cases hs
    refine ld f.sx out_sx in_sx (hk _ _ _ _ _ _ _ _ _ _ _ _ ?_ ⟨hB.acc, hB.out, hB.y⟩)
    exact { hR with t := fun v hv => by cases hv; rfl }
  | ldW j nt h =>
    cases hs
    refine ld f.sw out_sw in_sw (hk _ _ _ _ _ _ _ _ _ _ _ _ ?_ ⟨hB.acc, hB.out, hB.y⟩)
    exact { hR with w := fun v hv => by cases hv; rfl }
  | dead cc =>
    cases hs
    exact ld g.acc out_acc in_acc (hk _ _ _ _ _ _ _ _ _ _ _ _ hR hB)
  | push q r =>
    dsimp only [Op.step] at hs
    split at hs
    · rename_i v h1
      cases hs
      have hM : M.reg q r = none := (hR.m.reg q r).trans (by dsimp only; rw [h1]; rfl)
      refine BIBase.Entails.trans ?_ (wp_assume 𝒱 (c : Thread nD τ) bd E (Mxu.pushOk_of_none M q r true hM))
      refine hk _ _ _ _ _ _ _ _ _ _ _ _ ?_ ⟨hB.acc, hB.out, hB.y⟩
      obtain rfl : X = _ := hR.X v rfl
      exact { hR with m := hR.m.push h1 }
    · cases hs
  | accS q r p cc =>
    dsimp only [Op.step] at hs
    split at hs
    · rename_i v l h1 h3
      obtain ⟨hc, rfl⟩ := cond_some hs
      simp only [Bool.and_eq_true, feq_iff] at hc
      obtain ⟨hj, rfl⟩ := hc
      refine hk _ _ _ _ _ _ _ _ _ _ _ _ ?_ ⟨hB.acc, hB.out, hB.y⟩
      rw [hR.L l rfl, ← hj]
      exact { hR with m := hR.m.accS h3 h1, L := fun v' hv' => by rw [hj]; rw [← hR.L l rfl]; exact hR.L v' hv' }
    · cases hs
  | accL q p cc =>
    dsimp only [Op.step] at hs
    split at hs
    · rename_i v l h1 h3
      obtain ⟨hc, rfl⟩ := cond_some hs
      simp only [Bool.and_eq_true, feq_iff] at hc
      obtain ⟨hj, rfl⟩ := hc
      have hg : M.gmr q = some ((envOf B i0 f).staged v) := hR.m.gmr q v h1
      obtain ⟨hi, he⟩ := Option.eq_some_iff_get_eq.mp hg
      refine BIBase.Entails.trans ?_ (wp_assume 𝒱 (c : Thread nD τ) bd E hi)
      refine hk _ _ _ _ _ _ _ _ _ _ _ _ ?_ ⟨hB.acc, hB.out, hB.y⟩
      rw [he, hR.L l rfl, ← hj]
      exact { hR with m := hR.m.accL h3, L := fun v' hv' => by rw [hj]; rw [← hR.L l rfl]; exact hR.L v' hv' }
    · cases hs
  | pop0 p cc h =>
    dsimp only [Op.step] at hs
    split at hs
    · rename_i v s h1 h2
      obtain ⟨hc, rfl⟩ := cond_some hs
      simp only [Bool.and_eq_true, feq_iff] at hc
      obtain ⟨e1, e2, e3, e4, e5⟩ := hc
      refine hk _ _ _ _ _ _ _ _ _ _ _ _ ?_ ⟨hB.acc, hB.out, hB.y⟩
      have hs' : (h.rec s00 s10 : FVec F T1 .f32) = (envOf B i0 f).srow s := by
        cases h
        · exact hR.s00 s h2
        · exact hR.s10 s h2
      refine { hR with m := hR.m.pop, a := fun l hl => ?_ }
      cases hl
      show _ = _
      rw [(hR.m.row 0 p cc v h1).2, hs']
      obtain ⟨tt, nt, j, hh⟩ := s
      cases e1; cases e2; cases e3; cases e4; cases e5
      rfl
    · cases hs
  | pop1 p cc =>
    dsimp only [Op.step] at hs
    split at hs
    · rename_i v h1
      cases hs
      refine hk _ _ _ _ _ _ _ _ _ _ _ _ ?_ ⟨hB.acc, hB.out, hB.y⟩
      refine { hR with m := hR.m.pop, b := fun l hl => ?_ }
      cases hl
      exact (hR.m.row 1 p cc v h1).2
    · cases hs
  | mul1 h =>
    dsimp only [Op.step] at hs
    split at hs
    · rename_i v s h2
      obtain ⟨hc, rfl⟩ := cond_some hs
      simp only [Bool.and_eq_true, feq_iff] at hc
      obtain ⟨e1, e2, e3, e5⟩ := hc
      refine hk _ _ _ _ _ _ _ _ _ _ _ _ ?_ ⟨hB.acc, hB.out, hB.y⟩
      have hs' : (h.rec s01 s11 : FVec F T1 .f32) = (envOf B i0 f).srow s := by
        cases h
        · exact hR.s01 s h2
        · exact hR.s11 s h2
      refine { hR with b := fun l hl => ?_ }
      cases hl
      show _ = _
      have hb : b = (envOf B i0 f).pass v := hR.b _ rfl
      rw [hb, hs']
      obtain ⟨tt, nt, j, hh⟩ := s
      cases e1; cases e2; cases e3; cases e5
      rfl
    · cases hs
  | addC cc =>
    dsimp only [Op.step] at hs
    split at hs
    · rename_i v u h2
      obtain ⟨hc, rfl⟩ := cond_some hs
      simp only [Bool.and_eq_true, feq_iff, Nat.beq_eq] at hc
      obtain ⟨e1, e2, e3, e4⟩ := hc
      refine ld g.acc out_acc in_acc (hk _ _ _ _ _ _ _ _ _ _ _ _ ?_ ⟨hB.acc, hB.out, hB.y⟩)
      refine { hR with a := fun l hl => ?_ }
      cases hl
      refine ⟨u.r, rfl, ?_⟩
      have ha : a = (envOf B i0 f).term v := hR.a _ rfl
      rw [ha, (hB.acc cc u h2).2]
      obtain ⟨tt, nt, j, hh⟩ := v
      cases e1; cases e2; cases e3
      rw [← eq_jn e4]
    · cases hs
  | addB =>
    dsimp only [Op.step] at hs
    split at hs
    · rename_i u v
      obtain ⟨hc, rfl⟩ := cond_some hs
      simp only [Bool.and_eq_true, feq_iff, Nat.beq_eq] at hc
      obtain ⟨e1, e2, e3, e4⟩ := hc
      refine hk _ _ _ _ _ _ _ _ _ _ _ _ ?_ ⟨hB.acc, hB.out, hB.y⟩
      refine { hR with a := fun l hl => ?_ }
      cases hl
      obtain ⟨r, hr, ha⟩ := hR.a _ rfl
      have hb : b = (envOf B i0 f).term v := hR.b _ rfl
      show _ = _
      rw [hr] at e4 ⊢
      rw [ha, hb]
      obtain ⟨tt, nt, j, hh⟩ := v
      cases e1; cases e2; cases e3
      have h4 : j = jn (2 * (r + 1) + 1) := eq_jn e4
      subst h4
      rfl
    · rename_i u v
      obtain ⟨hc, rfl⟩ := cond_some hs
      simp only [Bool.and_eq_true, feq_iff, Nat.beq_eq] at hc
      obtain ⟨e1, e2, e3, e4, e5⟩ := hc
      refine hk _ _ _ _ _ _ _ _ _ _ _ _ ?_ ⟨hB.acc, hB.out, hB.y⟩
      refine { hR with a := fun l hl => ?_ }
      cases hl
      have ha : a = (envOf B i0 f).term u := hR.a _ rfl
      have hb : b = (envOf B i0 f).term v := hR.b _ rfl
      show _ = _
      rw [ha, hb]
      obtain ⟨tt, nt, j, hh⟩ := v
      obtain ⟨tt', nt', j', hh'⟩ := u
      cases e1; cases e2; cases e3
      have h4 : j' = jn 0 := eq_jn e4
      have h5 : j = jn 1 := eq_jn e5
      subst h4 h5
      rfl
    · cases hs
  | stA cc =>
    dsimp only [Op.step] at hs
    split at hs
    · rename_i u
      obtain ⟨hc, rfl⟩ := cond_some hs
      rw [feq_iff] at hc
      have ha : a = (envOf B i0 f).part u.tt u.nt u.c u.r := hR.a _ rfl
      refine st g.acc out_acc in_acc (hk _ _ _ _ _ _ _ _ _ _ _ _ ⟨hR.m, hR.s00, hR.s01, hR.s10, hR.s11, hR.t, hR.w, hR.L, hR.X, hR.a, hR.b⟩ ?_)
      rw [shapeCast_self, ha]
      exact hB.stA hc
    · cases hs
  | stO cc =>
    dsimp only [Op.step] at hs
    split at hs
    · rename_i u
      obtain ⟨hc, rfl⟩ := cond_some hs
      simp only [Bool.and_eq_true, feq_iff, Nat.beq_eq] at hc
      have ha : a = (envOf B i0 f).part u.tt u.nt u.c u.r := hR.a _ rfl
      refine ld g.out out_out in_out (st g.out out_out in_out (hk _ _ _ _ _ _ _ _ _ _ _ _ ⟨hR.m, hR.s00, hR.s01, hR.s10, hR.s11, hR.t, hR.w, hR.L, hR.X, hR.a, hR.b⟩ ?_))
      rw [shapeCast_self, ha]
      exact hB.stO hc.1 hc.2
    · cases hs
  | mulS h q =>
    dsimp only [Op.step] at hs
    split at hs
    · rename_i u v
      obtain ⟨hc, hs⟩ := (show feq u.j v.j = true ∧ _ = some σ' by
        cases hj : feq u.j v.j
        · rw [hj] at hs; cases hs
        · rw [hj] at hs; exact ⟨rfl, hs⟩)
      rw [feq_iff] at hc
      have key : mulf t w = (envOf B i0 f).srow ⟨u.tt, v.nt, v.j, v.h⟩ := by
        rw [hR.t u rfl, hR.w v rfl, hc]; rfl
      cases h <;> cases q <;> cases hs <;> refine hk _ _ _ _ _ _ _ _ _ _ _ _ ?_ ⟨hB.acc, hB.out, hB.y⟩
      · exact { hR with s00 := fun l hl => by cases hl; exact key }
      · exact { hR with s01 := fun l hl => by cases hl; exact key }
      · exact { hR with s10 := fun l hl => by cases hl; exact key }
      · exact { hR with s11 := fun l hl => by cases hl; exact key }
    · cases hs
  | emit tt nt x z =>
    dsimp only [Op.step] at hs
    split at hs
    · rename_i u0 u1 u2 u3 h0 h1 h2 h3
      obtain ⟨hc, rfl⟩ := cond_some hs
      simp only [Bool.and_eq_true, feq_iff] at hc
      obtain ⟨a1, a2, a3, a4, a5, a6, a7, a8⟩ := hc
      refine ld g.out out_out in_out (ld g.y out_y in_y (st g.y out_y in_y (hk _ _ _ _ _ _ _ _ _ _ _ _
        ⟨hR.m, hR.s00, hR.s01, hR.s10, hR.s11, hR.t, hR.w, hR.L, hR.X, hR.a, hR.b⟩ (hB.emit (read_out hB ?_)))))
      intro k
      match k with
      | 0 => exact ⟨u0, h0, a1, a2⟩
      | 1 => exact ⟨u1, h1, a3, a4⟩
      | 2 => exact ⟨u2, h2, a5, a6⟩
      | 3 => exact ⟨u3, h3, a7, a8⟩
    · cases hs

/-- The whole list. -/
theorem Good.steps {Q : α → sProp 𝕄} {R : sProp 𝕄} (l : List Op) : ∀ {σ : Sy}, steps? l σ = some σ' → Good defs 𝒱 c bd E B i0 f R Q σ' k →
    Good defs 𝒱 c bd E B i0 f R Q σ (run B i0 l k) := by
  induction l with
  | nil => intro σ h hk; cases h; exact hk
  | cons o l ih =>
    intro σ h hk
    dsimp only [steps?] at h
    split at h
    · rename_i σ1 h1
      exact Good.step (ih h hk) o h1
    · cases h

theorem all2_iff {p : Fin 2 → Bool} (h : all2 p = true) (i : Fin 2) : p i = true := by
  unfold all2 at h
  rw [Bool.and_eq_true] at h
  match i with
  | 0 => exact h.1
  | 1 => exact h.2

theorem all4_iff {p : Fin 4 → Bool} (h : all4 p = true) (i : Fin 4) : p i = true := by
  unfold all4 at h
  simp only [Bool.and_eq_true] at h
  match i with
  | 0 => exact h.1
  | 1 => exact h.2.1
  | 2 => exact h.2.2.1
  | 3 => exact h.2.2.2

theorem mem_chunks : ∀ cc : Fin 16, cc ∈ chunksLo ++ chunksHi := by decide

/-- THE BODY AFTER THE TRANSPOSITION: from any buffers it fills every block of the result with the sums of its inputs, and the
    matrix units end drained. -/
theorem body_sound (g : Outs F B) (s00 s01 s10 s11 t w : FVec F T1 .f32) (L : FVec F T32 .fp8e4m3) (X : FVec F T256 .bf16) (a b : FVec F T32 .f32) {Q : PUnit → sProp 𝕄} {R : sProp 𝕄}
    (hQ : ∀ g' : Outs F B, (∀ tt nt x z, B.y.view.readAt (Elt F) (rY tt nt x z).toLoadRect g'.y = (envOf B i0 f).blk tt nt x z) →
      (Hold B c f g' R ⊢ Q ⟨⟩)) :
    Hold B c f g R ⊢ WPa defs 𝒱 c bd E Q (run B i0 bodyOps (fun M _ _ _ _ _ _ _ _ _ _ => M.exit >>= fun _ => pure PUnit.unit) Mxu.init s00 s01 s10 s11 t w L X a b) := by
  have hb := bodyOps_check
  unfold bodyCheck at hb
  split at hb
  · rename_i σ h
    unfold Sy.good at hb
    simp only [Bool.and_eq_true] at hb
    obtain ⟨hreg, hrow, hy⟩ := hb
    refine Good.steps (σ' := σ) bodyOps h ?_ _ _ _ _ _ _ _ _ _ _ _ g (Rel.init _ s00 s01 s10 s11 t w L X a b) (Bok.mk nofun nofun nofun)
    intro M s00 s01 s10 s11 t w L X a b g' hR hB
    have hd : M.Drained := by
      refine hR.m.drained (fun q r => ?_) (fun q p cc => ?_)
      · have := all2_iff (all2_iff hreg q) r
        simpa using this
      · have := List.all_eq_true.mp (all2_iff (all2_iff hrow q) p) cc (mem_chunks cc)
        simpa using this
    refine BIBase.Entails.trans ?_ (Mxu.wp_exit hd)
    refine (hQ g' fun tt nt x z => hB.y tt nt x z (all2_iff (all4_iff (all4_iff (all2_iff hy tt) nt) x) z)).trans ?_
    rw [Prog.pure_eq_ret, wp_ret]
    exact BI.fupd_intro
  · cases hb
end Cert.Mm
-- ==== Proof.Prologue.lean ====
module
public import proofs.«01_k».proof.Proof.ExecRun
/-!
# The transposition of the weights

144 blocks of 256 by 256 codes, one a trip: after them the scratch holds the transposed block of weights.
-/
@[expose] public section
noncomputable section
namespace Cert.Mm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F] {Λ : Labels}
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ} {𝒱 : Variants} {c : Dev nD} {bd : Option 𝒱.V} {E : Set Name}

theorem tr256 : T256.Transposes [1, 0] T256 := by decide
theorem sc256 : T256.ShapeCasts T256 := by decide

/-- The transposed block of weights, by way of bf16. -/
def wtOf (w : FVec F SW .fp8e4m3) : FVec F SWT .fp8e4m3 :=
  truncf .fp8e4m3 (φ := .bf16) (fun i => extf .bf16 w lt8 (Mxu.ix (m := 4608) (n := 2048) (i 1) (i 0))) lt8

/-- The block of the scratch an entry is in. -/
def blkNo (i : SWT.Idx) : Nat := 8 * ((i 1).val / 256) + (i 0).val / 256

theorem store_block (v5 : View sig .tc .vmem SW .fp8e4m3) (v7 : View sig .tc .vmem SWT .fp8e4m3) (k : Nat)
    {o1 o2 : Fin 2 → Nat} (i1 : ∀ a, o1 a + T256.size a ≤ SW.size a) (i2 : ∀ a, o2 a + T256.size a ≤ SWT.size a)
    (h1 : o1 = ![256 * (k / 8), 256 * (k % 8)]) (h2 : o2 = ![256 * (k % 8), 256 * (k / 8)])
    (f5 : v5.ty.Contents (Elt F)) (f7 : v7.ty.Contents (Elt F))
    (hf : ∀ i, blkNo i < k → v7.read (Elt F) f7 i = wtOf (v5.read (Elt F) f5) i) (i : SWT.Idx) (hi : blkNo i < k + 1) :
    v7.read (Elt F) ((v7.slice (Rect.unit o2 T256.size i2)).write (Elt F) f7
      (shapeCast T256 (truncf .fp8e4m3 (transpose T256 [1, 0] (extf .bf16 (v5.readAt (Elt F) (Rect.unit (s := SW) o1 T256.size i1).toLoadRect f5 : FVec F T256 .fp8e4m3) lt8) tr256) lt8) sc256)
      Finset.univ) i = wtOf (v5.read (Elt F) f5) i := by
  subst h1 h2
  unfold blkNo at *
  rw [shapeCast_self]
  have b0 : (i 0).val < 2048 := (i 0).isLt
  have b1 : (i 1).val < 4608 := (i 1).isLt
  by_cases h : 8 * ((i 1).val / 256) + (i 0).val / 256 = k
  · have e : i = (Rect.unit (s := SWT) ![256 * (k % 8), 256 * (k / 8)] T256.size i2).emb
        (Mxu.ix (m := 256) (n := 256) ⟨(i 0).val % 256, by omega⟩ ⟨(i 1).val % 256, by omega⟩) := by
      funext a
      apply Fin.ext
      match a with
      | 0 => show (i 0).val = 256 * (k % 8) + 1 * ((i 0).val % 256); omega
      | 1 => show (i 1).val = 256 * (k / 8) + 1 * ((i 1).val % 256); omega
    refine (congrArg _ e).trans ((View.read_slice_write_emb _ _ _ (Finset.mem_univ _)).trans ?_)
    refine congrArg (fun y => FloatOps.truncf (φ := .bf16) .fp8e4m3 lt8 (FloatOps.extf (φ := .fp8e4m3) .bf16 lt8 (v5.read (Elt F) f5 y))) ?_
    funext a
    apply Fin.ext
    match a with
    | 0 => show 256 * (k / 8) + 1 * ((i 1).val % 256) = (i 1).val; omega
    | 1 => show 256 * (k % 8) + 1 * ((i 0).val % 256) = (i 0).val; omega
  · rw [View.read_slice_write_of_not_mem]
    · exact hf i (by omega)
    · rw [Rect.map_emb_univ, Rect.mem_set_unit]
      intro hall
      have := hall 0
      have := hall 1
      have a0 : 256 * (k % 8) ≤ (i 0).val ∧ (i 0).val < 256 * (k % 8) + 256 := hall 0
      have a1 : 256 * (k / 8) ≤ (i 1).val ∧ (i 1).val < 256 * (k / 8) + 256 := hall 1
      omega

/-- THE LOOP: from any scratch to the transposed block. -/
theorem wp_transposes {β : Type} (arg5 : Memref sig .tc .vmem SW .fp8e4m3) (arg7 : Memref sig .tc .vmem SWT .fp8e4m3)
    (lp : Scf.Loop 32) (hok : lp.OK) (ht : lp.trips = 144)
    (o1 o2 : Fin lp.trips → Fin 2 → Nat) (i1 : ∀ k a, o1 k a + T256.size a ≤ SW.size a) (i2 : ∀ k a, o2 k a + T256.size a ≤ SWT.size a)
    (h1 : ∀ k, o1 k = ![256 * (k.val / 8), 256 * (k.val % 8)]) (h2 : ∀ k, o2 k = ![256 * (k.val % 8), 256 * (k.val / 8)])
    (l1 : ∀ k, arg5.view.LoadsAt (Rect.unit (s := SW) (o1 k) T256.size (i1 k)).toLoadRect)
    (l2 : ∀ k, arg7.view.LoadsAt (Rect.unit (s := SWT) (o2 k) T256.size (i2 k)).toLoadRect)
    (hx : ∀ k, (arg7.access (Rect.unit (s := SWT) (o2 k) T256.size (i2 k))).Stores Finset.univ)
    (f5 : arg5.view.ty.Contents (Elt F)) (f7 : arg7.view.ty.Contents (Elt F))
    {kk : PUnit → Prog (TpuEff nD τ sig (Elt F) Λ .tc) β} {Q : β → sProp 𝕄} {R : sProp 𝕄}
    (hk : ∀ f7' : arg7.view.ty.Contents (Elt F), arg7.view.read (Elt F) f7' = wtOf (arg5.view.read (Elt F) f5) →
      (iprop((arg5.view.loc (c : Thread nD τ) ↦[arg5.view.set]{fullShare} f5) ∗ (arg7.view.loc (c : Thread nD τ) ↦[arg7.view.set]{fullShare} f7') ∗ R)
        ⊢ WPa defs 𝒱 c bd E Q (kk ⟨⟩))) :
    iprop((arg5.view.loc (c : Thread nD τ) ↦[arg5.view.set]{fullShare} f5) ∗ (arg7.view.loc (c : Thread nD τ) ↦[arg7.view.set]{fullShare} f7) ∗ R)
      ⊢ WPa defs 𝒱 c bd E Q ((Scf.Loop.for lp hok (PUnit.unit : PUnit) fun k _ => do
        let v37 : Vec F T256 .fp8e4m3 ← Prog.lift (.load arg5 (Rect.unit (s := SW) (o1 k) T256.size (i1 k)).toLoadRect (l1 k))
        have v38 : FVec F T256 .bf16 := extf .bf16 v37 lt8
        have v39 : FVec F T256 .bf16 := transpose T256 [1, 0] v38 tr256
        have v40 : FVec F T256 .fp8e4m3 := truncf .fp8e4m3 v39 lt8
        let _ : Vec F T256 .fp8e4m3 ← Prog.lift (.load arg7 (Rect.unit (s := SWT) (o2 k) T256.size (i2 k)).toLoadRect (l2 k))
        have v45 : FVec F T256 .fp8e4m3 := shapeCast T256 v40 sc256
        Prog.lift (.store arg7 (Rect.unit (s := SWT) (o2 k) T256.size (i2 k)) v45 Finset.univ (hx k) (.inl rfl))
        pure PUnit.unit) >>= kk) := by
  iintro H
  iapply (Scf.wp_for_bind frame (wpE defs 𝒱 (c : Thread nD τ) bd) E lp.lb lp.ub lp.st hok PUnit.unit _
    (fun k _ => iprop(∃ g : arg7.view.ty.Contents (Elt F), ⌜∀ i, blkNo i < k → arg7.view.read (Elt F) g i = wtOf (arg5.view.read (Elt F) f5) i⌝ ∗
      ((arg5.view.loc (c : Thread nD τ) ↦[arg5.view.set]{fullShare} f5) ∗ (arg7.view.loc (c : Thread nD τ) ↦[arg7.view.set]{fullShare} g) ∗ R)))
    (fun k _ => ?_)) $$ [H]
  · iintro ⟨%g, %hg, H⟩
    refine ld (c := c) (m := arg5) (S := iprop((arg7.view.loc (c : Thread nD τ) ↦[arg7.view.set]{fullShare} g) ∗ R)) f5 .rfl .rfl ?_
    refine ld (c := c) (m := arg7) (S := iprop((arg5.view.loc (c : Thread nD τ) ↦[arg5.view.set]{fullShare} f5) ∗ R)) g ?_ ?_ ?_
    · iintro ⟨H5, H7, HR⟩
      isplitl [H7]
      · iexact H7
      isplitl [H5]
      · iexact H5
      iexact HR
    · iintro ⟨H7, H5, HR⟩
      isplitl [H5]
      · iexact H5
      isplitl [H7]
      · iexact H7
      iexact HR
    refine st (c := c) (m := arg7) (S := iprop((arg5.view.loc (c : Thread nD τ) ↦[arg5.view.set]{fullShare} f5) ∗ R)) g ?_ .rfl ?_
    · iintro ⟨H5, H7, HR⟩
      isplitl [H7]
      · iexact H7
      isplitl [H5]
      · iexact H5
      iexact HR
    show _ ⊢ WPa defs 𝒱 c bd E _ (Prog.ret PUnit.unit)
    unfold WPa
    rw [wp_ret]
    iintro ⟨H7, H5, HR⟩
    imodintro
    iexists _
    isplitl []
    · ipureintro
      exact store_block arg5.view arg7.view k.val (i1 k) (i2 k) (h1 k) (h2 k) f5 g hg
    isplitl [H5]
    · iexact H5
    isplitl [H7]
    · iexact H7
    iexact HR
  · iexists f7
    isplitl []
    · ipureintro
      exact fun i h => absurd h (Nat.not_lt_zero _)
    iexact H
  · iintro %_ ⟨%g, %hg, H⟩
    have hg' : arg7.view.read (Elt F) g = wtOf (arg5.view.read (Elt F) f5) := funext fun i => hg i (by
      have b0 : (i 0).val < 2048 := (i 0).isLt
      have b1 : (i 1).val < 4608 := (i 1).isLt
      have : Scf.trips lp.lb lp.ub lp.st = 144 := ht
      rw [this]; unfold blkNo; omega)
    iapply (hk g hg')
    iexact H
end Cert.Mm
-- ==== Proof.Point.lean ====
module
public import proofs.«01_k».proof.Proof.Prologue
/-!
# One point of the grid, after the transposition

The block of the result as a function of the blocks the point reads.
-/
@[expose] public section
noncomputable section
namespace Cert.Mm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F] {Λ : Labels}
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ} {𝒱 : Variants} {c : Dev nD} {bd : Option 𝒱.V} {E : Set Name}

/-- The values the body meets, off the blocks as arrays. -/
def envIn (i0 : Fin 18) (sw : FVec F SSW .f32) (x : FVec F SX .fp8e4m3) (sx : FVec F SSX .f32) (wt : FVec F SWT .fp8e4m3) : Env F where
  wt := fun nt c j i => wt ((rL nt c j).toLoadRect.idx i)
  x := fun tt j i => x ((rX tt j).toLoadRect.idx i)
  sx := fun j tt i => sx ((rS j tt).toLoadRect.idx i)
  sw := fun j nt h => sw ((rW i0 j nt h).emb (Shape.Idx.first (numelU1.symm ▸ Nat.one_pos)))

theorem envOf_eq (B : Bufs sig) (i0 : Fin 18) (f : Ins F B) : envOf B i0 f =
    envIn i0 (B.sw.view.read (Elt F) f.sw) (B.x.view.read (Elt F) f.x) (B.sx.view.read (Elt F) f.sx) (B.wt.view.read (Elt F) f.wt) := rfl

/-- The result block. -/
def Env.y (D : Env F) : FVec F SY .bf16 := fun i =>
  have h0 : (i 0).val < 512 := (i 0).isLt
  have h1 : (i 1).val < 2048 := (i 1).isLt
  D.blk ⟨(i 0).val / 256, by omega⟩ ⟨(i 1).val / 512, by omega⟩ ⟨(i 1).val % 512 / 128, by omega⟩ ⟨(i 0).val % 256 / 128, by omega⟩
    (Mxu.ix (m := 128) (n := 128) ⟨(i 0).val % 128, by omega⟩ ⟨(i 1).val % 128, by omega⟩)

/-- The result buffer, its blocks all filled. -/
theorem read_y (v : View sig .tc .vmem SY .bf16) (f : v.ty.Contents (Elt F)) (D : Env F)
    (h : ∀ tt nt x z, v.readAt (Elt F) (rY tt nt x z).toLoadRect f = D.blk tt nt x z) : v.read (Elt F) f = D.y := by
  funext i
  have h0 : (i 0).val < 512 := (i 0).isLt
  have h1 : (i 1).val < 2048 := (i 1).isLt
  refine Eq.trans ?_ (congrFun (h ⟨(i 0).val / 256, by omega⟩ ⟨(i 1).val / 512, by omega⟩ ⟨(i 1).val % 512 / 128, by omega⟩ ⟨(i 0).val % 256 / 128, by omega⟩)
    (Mxu.ix (m := 128) (n := 128) ⟨(i 0).val % 128, by omega⟩ ⟨(i 1).val % 128, by omega⟩))
  show v.read (Elt F) f i = v.read (Elt F) f _
  refine congrArg _ ?_
  funext a
  apply Fin.ext
  match a with
  | 0 =>
    show (i 0).val = 256 * ((i 0).val / 256) + 128 * ((i 0).val % 256 / 128) + 1 * ((i 0).val % 128)
    omega
  | 1 =>
    show (i 1).val = 512 * ((i 1).val / 512) + 128 * ((i 1).val % 512 / 128) + 1 * ((i 1).val % 128)
    omega

/-- The body after the transposition: the inputs stay, the result block is filled. -/
theorem rest_sound (B : Bufs sig) (i0 : Fin 18) (sw : FVec F SSW .f32) (x : FVec F SX .fp8e4m3) (sx : FVec F SSX .f32)
    (wt : FVec F SWT .fp8e4m3) (y : FVec F SY .bf16)
    (s00 s01 s10 s11 t w' : FVec F T1 .f32) (L : FVec F T32 .fp8e4m3) (X : FVec F T256 .bf16) (a b : FVec F T32 .f32) {R : sProp 𝕄} :
    iprop((owns (c : Thread nD τ) B.sw fullShare sw) ∗ (owns (c : Thread nD τ) B.x fullShare x) ∗ (owns (c : Thread nD τ) B.sx fullShare sx) ∗
      (owns (c : Thread nD τ) B.y fullShare y) ∗ (owns (c : Thread nD τ) B.wt fullShare wt) ∗ (∃ d, owns (c : Thread nD τ) B.acc fullShare d) ∗ (∃ d, owns (c : Thread nD τ) B.out fullShare d) ∗ R)
      ⊢ WPa defs 𝒱 c bd E (fun _ => iprop((owns (c : Thread nD τ) B.sw fullShare sw) ∗ (owns (c : Thread nD τ) B.x fullShare x) ∗ (owns (c : Thread nD τ) B.sx fullShare sx) ∗
      (owns (c : Thread nD τ) B.y fullShare (envIn i0 sw x sx wt).y) ∗ (owns (c : Thread nD τ) B.wt fullShare wt) ∗
      (∃ d, owns (c : Thread nD τ) B.acc fullShare d) ∗ (∃ d, owns (c : Thread nD τ) B.out fullShare d) ∗ R))
        (run B i0 bodyOps (fun M _ _ _ _ _ _ _ _ _ _ => M.exit >>= fun _ => pure PUnit.unit) Mxu.init s00 s01 s10 s11 t w' L X a b) := by
  unfold owns
  iintro ⟨⟨%fsw, %hsw, Hsw⟩, ⟨%fx, %hx, Hx⟩, ⟨%fsx, %hsx, Hsx⟩, ⟨%fy, %hy, Hy⟩, ⟨%f7, %h7, Hwt⟩, ⟨%dacc, %facc, -, Hacc⟩, ⟨%dout, %fout, -, Hout⟩, HR⟩
  iapply (body_sound (B := B) (i0 := i0) (f := ⟨fsw, fx, fsx, f7⟩) (c := c) ⟨facc, fout, fy⟩ s00 s01 s10 s11 t w' L X a b (R := R) ?_)
  · intro g' hg'
    iintro ⟨Hsw, Hx, Hsx, Hwt, Hacc, Hout, Hy, HR⟩
    isplitl [Hsw]
    · iexists fsw
      isplitl []
      · ipureintro; exact hsw
      iexact Hsw
    isplitl [Hx]
    · iexists fx
      isplitl []
      · ipureintro; exact hx
      iexact Hx
    isplitl [Hsx]
    · iexists fsx
      isplitl []
      · ipureintro; exact hsx
      iexact Hsx
    isplitl [Hy]
    · iexists g'.y
      isplitl []
      · ipureintro
        refine (read_y _ _ _ hg').trans ?_
        rw [envOf_eq]
        dsimp only
        rw [hsw, hx, hsx, h7]
      iexact Hy
    isplitl [Hwt]
    · iexists f7
      isplitl []
      · ipureintro; exact h7
      iexact Hwt
    isplitl [Hacc]
    · iexists _, g'.acc
      isplitl []
      · ipureintro; exact rfl
      iexact Hacc
    isplitl [Hout]
    · iexists _, g'.out
      isplitl []
      · ipureintro; exact rfl
      iexact Hout
    iexact HR
  isplitl [Hsw]
  · iexact Hsw
  isplitl [Hx]
  · iexact Hx
  isplitl [Hsx]
  · iexact Hsx
  isplitl [Hwt]
  · iexact Hwt
  isplitl [Hacc]
  · iexact Hacc
  isplitl [Hout]
  · iexact Hout
  isplitl [Hy]
  · iexact Hy
  iexact HR
end Cert.Mm
-- ==== Proof.Run.lean ====
module
public import proofs.«01_k».proof.Proof.Body
public import proofs.«01_k».proof.Proof.Point
public import proofs.«01_k».proof.Proof.Gen.Kernel.Frame
public import Idealize.ShloMosaic.Lib.Claim
/-!
# The run of the kernel

Point by point: the scratch carries the transposed block of weights from the first token tile of a block of columns to the last,
and every point leaves its block of the result.
-/
@[expose] public section
noncomputable section
namespace Cert.Kernel.Hand
open Cert.Kernel Cert.Kernel.Gen Cert.Mm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-! ## The transposition -/

theorem off1_eq : ∀ k : Fin k0_t1_loop.trips, k0_off1 k = ![256 * (k.val / 8), 256 * (k.val % 8)] := by decide +kernel
theorem off2_eq : ∀ k : Fin k0_t1_loop.trips, k0_off2 k = ![256 * (k.val % 8), 256 * (k.val / 8)] := by decide +kernel
theorem trips_eq : k0_t1_loop.trips = 144 := by decide +kernel
theorem cond_iff : ∀ t : Fin grid0.N, k0_cond1 (grid0.coords t) = 1#1 ↔ t.val % 16 = 0 := by decide +kernel
theorem coord0 : ∀ t : Fin grid0.N, (grid0.coords t 0).val = t.val / 16 := by decide +kernel

/-- The transposition, or nothing where the scratch already holds the transposed block. -/
theorem prologue_sound (c : Dev nD) (i : grid0.Coords) (arg2 : Memref sig .tc .smem S18x144 .f32) (harg2 : arg2.IsWhole) (arg3 : Memref sig .tc .vmem S512x4608 .fp8e4m3) (harg3 : arg3.IsWhole) (arg4 : Memref sig .tc .vmem S32x512 .f32) (harg4 : arg4.IsWhole) (arg5 : Memref sig .tc .vmem S4608x2048 .fp8e4m3) (harg5 : arg5.IsWhole) (arg6 : Memref sig .tc .vmem S512x2048 .bf16) (harg6 : arg6.IsWhole) (arg7 : Memref sig .tc .vmem S2048x4608 .fp8e4m3) (harg7 : arg7.IsWhole) (arg8 : Memref sig .tc .vmem S512x256 .f32) (harg8 : arg8.IsWhole) (arg9 : Memref sig .tc .vmem S512x256 .bf16) (harg9 : arg9.IsWhole) (w : FVec F SW .fp8e4m3) (d7 : FVec F SWT .fp8e4m3)
    (hd : k0_cond1 i ≠ 1#1 → d7 = wtOf w) {kk : PUnit → Prog (TpuEff nD τ sig (Elt F) Λ₀ .tc) PUnit} {Q : PUnit → sProp 𝕄} {R : sProp 𝕄}
    (hk : iprop(owns (c : Thread nD τ) arg5 fullShare w ∗ owns (c : Thread nD τ) arg7 fullShare (wtOf w) ∗ R) ⊢ WPa (defs₀ (F := F)) Variants.none c none Set.univ Q (kk ⟨⟩)) :
    iprop(owns (c : Thread nD τ) arg5 fullShare w ∗ owns (c : Thread nD τ) arg7 fullShare d7 ∗ R) ⊢
      WPa (defs₀ (F := F)) Variants.none c none Set.univ Q (prologue i arg2 harg2 arg3 harg3 arg4 harg4 arg5 harg5 arg6 harg6 arg7 harg7 arg8 harg8 arg9 harg9 >>= kk) := by
  unfold prologue
  by_cases h : k0_cond1 i = 1#1
  · rw [dif_pos h]
    rw [Prog.bind_assoc]
    unfold owns
    iintro ⟨⟨%f5, %h5, H5⟩, ⟨%f7, %h7, H7⟩, HR⟩
    iapply (wp_transposes (c := c) arg5 arg7 k0_t1_loop (k0_t1_ok i h) trips_eq k0_off1 k0_off2 (fun k => k0_off1_inb i k h) (fun k => k0_off2_inb i k h)
      off1_eq off2_eq (fun k => View.loadsAt_vmem h_S256x256) (fun k => View.loadsAt_vmem h_S256x256)
      (fun k => View.stores_vmem h_S256x256 (harg7.storeExact_slice rfl _ (k0_off2_packedfp8e4m3 i k h)) (fun _ => rfl)) f5 f7 (R := R) ?_)
    · intro f7' h7'
      refine BIBase.Entails.trans ?_ hk
      unfold owns
      iintro ⟨H5, H7, HR⟩
      isplitl [H5]
      · iexists f5
        isplitl []
        · ipureintro; exact h5
        iexact H5
      isplitl [H7]
      · iexists f7'
        isplitl []
        · ipureintro; rw [h7', h5]
        iexact H7
      iexact HR
    isplitl [H5]
    · iexact H5
    isplitl [H7]
    · iexact H7
    iexact HR
  · rw [dif_neg h]
    obtain rfl := hd h
    exact hk

/-- Entering the body: the transposition, then the rest. -/
theorem sound_join (c : Dev nD) (i : grid0.Coords) (arg2 : Memref sig .tc .smem S18x144 .f32) (harg2 : arg2.IsWhole) (arg3 : Memref sig .tc .vmem S512x4608 .fp8e4m3) (harg3 : arg3.IsWhole) (arg4 : Memref sig .tc .vmem S32x512 .f32) (harg4 : arg4.IsWhole) (arg5 : Memref sig .tc .vmem S4608x2048 .fp8e4m3) (harg5 : arg5.IsWhole) (arg6 : Memref sig .tc .vmem S512x2048 .bf16) (harg6 : arg6.IsWhole) (arg7 : Memref sig .tc .vmem S2048x4608 .fp8e4m3) (harg7 : arg7.IsWhole) (arg8 : Memref sig .tc .vmem S512x256 .f32) (harg8 : arg8.IsWhole) (arg9 : Memref sig .tc .vmem S512x256 .bf16) (harg9 : arg9.IsWhole) (sw : FVec F SSW .f32) (x : FVec F SX .fp8e4m3) (sx : FVec F SSX .f32) (w : FVec F SW .fp8e4m3) (y : FVec F SY .bf16)
    (d7 : FVec F SWT .fp8e4m3) (hd : k0_cond1 i ≠ 1#1 → d7 = wtOf w) {R : sProp 𝕄} {Q : PUnit → sProp 𝕄} {p r : Prog (TpuEff nD τ sig (Elt F) Λ₀ .tc) PUnit}
    (hp : p = (prologue i arg2 harg2 arg3 harg3 arg4 harg4 arg5 harg5 arg6 harg6 arg7 harg7 arg8 harg8 arg9 harg9 >>= fun _ => r))
    (hr : iprop(owns (c : Thread nD τ) arg2 fullShare sw ∗ owns (c : Thread nD τ) arg3 fullShare x ∗ owns (c : Thread nD τ) arg4 fullShare sx ∗
        owns (c : Thread nD τ) arg6 fullShare y ∗ owns (c : Thread nD τ) arg7 fullShare (wtOf w) ∗ (∃ d, owns (c : Thread nD τ) arg8 fullShare d) ∗
        (∃ d, owns (c : Thread nD τ) arg9 fullShare d) ∗ owns (c : Thread nD τ) arg5 fullShare w ∗ R) ⊢ WPa (defs₀ (F := F)) Variants.none c none Set.univ Q r) :
    iprop(owns (c : Thread nD τ) arg2 fullShare sw ∗ owns (c : Thread nD τ) arg3 fullShare x ∗ owns (c : Thread nD τ) arg4 fullShare sx ∗
        owns (c : Thread nD τ) arg5 fullShare w ∗ owns (c : Thread nD τ) arg6 fullShare y ∗ owns (c : Thread nD τ) arg7 fullShare d7 ∗
        (∃ d, owns (c : Thread nD τ) arg8 fullShare d) ∗ (∃ d, owns (c : Thread nD τ) arg9 fullShare d) ∗ R) ⊢
      WPa (defs₀ (F := F)) Variants.none c none Set.univ Q p := by
  subst hp
  iintro ⟨H2, H3, H4, H5, H6, H7, H8, H9, HR⟩
  iapply (prologue_sound c i arg2 harg2 arg3 harg3 arg4 harg4 arg5 harg5 arg6 harg6 arg7 harg7 arg8 harg8 arg9 harg9 w d7 hd (R := iprop(owns (c : Thread nD τ) arg2 fullShare sw ∗ owns (c : Thread nD τ) arg3 fullShare x ∗ owns (c : Thread nD τ) arg4 fullShare sx ∗
        owns (c : Thread nD τ) arg6 fullShare y ∗ (∃ d, owns (c : Thread nD τ) arg8 fullShare d) ∗ (∃ d, owns (c : Thread nD τ) arg9 fullShare d) ∗ R)) ?_)
  · refine BIBase.Entails.trans ?_ hr
    iintro ⟨H5, H7, H2, H3, H4, H6, H8, H9, HR⟩
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H5]; · iexact H5
    iexact HR
  isplitl [H5]; · iexact H5
  isplitl [H7]; · iexact H7
  isplitl [H2]; · iexact H2
  isplitl [H3]; · iexact H3
  isplitl [H4]; · iexact H4
  isplitl [H6]; · iexact H6
  isplitl [H8]; · iexact H8
  isplitl [H9]; · iexact H9
  iexact HR

attribute [local irreducible] bodyOps run in
/-- THE BODY, at any point of the grid. -/
theorem sound_kernel (c : Dev nD) (i : grid0.Coords) (arg2 : Memref sig .tc .smem S18x144 .f32) (harg2 : arg2.IsWhole) (arg3 : Memref sig .tc .vmem S512x4608 .fp8e4m3) (harg3 : arg3.IsWhole) (arg4 : Memref sig .tc .vmem S32x512 .f32) (harg4 : arg4.IsWhole) (arg5 : Memref sig .tc .vmem S4608x2048 .fp8e4m3) (harg5 : arg5.IsWhole) (arg6 : Memref sig .tc .vmem S512x2048 .bf16) (harg6 : arg6.IsWhole) (arg7 : Memref sig .tc .vmem S2048x4608 .fp8e4m3) (harg7 : arg7.IsWhole) (arg8 : Memref sig .tc .vmem S512x256 .f32) (harg8 : arg8.IsWhole) (arg9 : Memref sig .tc .vmem S512x256 .bf16) (harg9 : arg9.IsWhole) (sw : FVec F SSW .f32) (x : FVec F SX .fp8e4m3) (sx : FVec F SSX .f32) (w : FVec F SW .fp8e4m3) (y : FVec F SY .bf16)
    (d7 : FVec F SWT .fp8e4m3) (hd : k0_cond1 i ≠ 1#1 → d7 = wtOf w) {R : sProp 𝕄} :
    iprop(owns (c : Thread nD τ) arg2 fullShare sw ∗ owns (c : Thread nD τ) arg3 fullShare x ∗ owns (c : Thread nD τ) arg4 fullShare sx ∗
        owns (c : Thread nD τ) arg5 fullShare w ∗ owns (c : Thread nD τ) arg6 fullShare y ∗ owns (c : Thread nD τ) arg7 fullShare d7 ∗
        (∃ d, owns (c : Thread nD τ) arg8 fullShare d) ∗ (∃ d, owns (c : Thread nD τ) arg9 fullShare d) ∗ R) ⊢
      WPa (defs₀ (F := F)) Variants.none c none Set.univ
        (fun _ => iprop(owns (c : Thread nD τ) arg2 fullShare sw ∗ owns (c : Thread nD τ) arg3 fullShare x ∗ owns (c : Thread nD τ) arg4 fullShare sx ∗
          owns (c : Thread nD τ) arg6 fullShare (envIn ⟨(i 0).val, (i 0).isLt⟩ sw x sx (wtOf w)).y ∗ owns (c : Thread nD τ) arg7 fullShare (wtOf w) ∗
          (∃ d, owns (c : Thread nD τ) arg8 fullShare d) ∗ (∃ d, owns (c : Thread nD τ) arg9 fullShare d) ∗ owns (c : Thread nD τ) arg5 fullShare w ∗ R))
        (cc0_block_scaled_matmul i arg2 harg2 arg3 harg3 arg4 harg4 arg5 harg5 arg6 harg6 arg7 harg7 arg8 harg8 arg9 harg9) :=
  let v0 : FVec F T32 .f32 := fun _ => sw (Mxu.ix (m := 18) (n := 144) 0 0)
  let v1 : FVec F T1 .f32 := fun _ => sw (Mxu.ix (m := 18) (n := 144) 0 0)
  let vL : FVec F T32 .fp8e4m3 := fun _ => x (Mxu.ix (m := 512) (n := 4608) 0 0)
  let vX : FVec F T256 .bf16 := fun _ => y (Mxu.ix (m := 512) (n := 2048) 0 0)
  sound_join c i arg2 harg2 arg3 harg3 arg4 harg4 arg5 harg5 arg6 harg6 arg7 harg7 arg8 harg8 arg9 harg9 sw x sx w y d7 hd (body_eq i arg2 harg2 arg3 harg3 arg4 harg4 arg5 harg5 arg6 harg6 arg7 harg7 arg8 harg8 arg9 harg9 v0 v1 v1 v1 v1 v1 v1 vL vX v0 v0)
    (rest_sound (c := c) ⟨arg2, arg3, arg4, arg6, harg6, arg7, arg8, arg9, harg9⟩ ⟨(i 0).val, (i 0).isLt⟩ sw x sx (wtOf w) y v1 v1 v1 v1 v1 v1 vL vX v0 v0)

variable (m : (ℓ : Loc nD τ sig) → Buf (Elt F) ℓ) (ρ : Dev nD → PrngReg)

/-! ## The blocks of the arguments -/

/-- The weights' block of columns `n`. -/
def wblk (c : Dev nD) (n : Nat) : FVec F SW .fp8e4m3 := fun i =>
  (m ((c : Thread nD τ).loc main_arg2) : FVec F ⟨2, ![4608, 36864]⟩ .fp8e4m3)
    (Mxu.ix (m := 4608) (n := 36864) ⟨(i 0).val, (i 0).isLt⟩ ⟨(2048 * n + (i 1).val) % 36864, Nat.mod_lt _ (by decide)⟩)

theorem index3 : ∀ t : Fin grid0.N, win0_3.index t 0 * win0_3.size 0 = 0 ∧ win0_3.index t 1 * win0_3.size 1 = 2048 * (t.val / 16) := by decide +kernel

theorem iblk3 (c : Dev nD) (t : Fin cfg0.N) : (iblk m c 3 t : FVec F SW .fp8e4m3) = wblk m c (t.val / 16) := by
  funext i
  have h1 : (i 1).val < 2048 := (i 1).isLt
  have hN : t.val < 288 := N_0 ▸ t.isLt
  show (m ((c : Thread nD τ).loc main_arg2) : FVec F ⟨2, ![4608, 36864]⟩ .fp8e4m3) _ = _
  unfold wblk
  refine congrArg _ ?_
  funext a
  apply Fin.ext
  match a with
  | 0 =>
    show win0_3.index t 0 * win0_3.size 0 + 1 * (i 0).val = (i 0).val
    rw [(index3 t).1]; omega
  | 1 =>
    show win0_3.index t 1 * win0_3.size 1 + 1 * (i 1).val = (2048 * (t.val / 16) + (i 1).val) % 36864
    rw [(index3 t).2]; omega

/-! ## The proof data -/

/-- What a point leaves in the result block. -/
def yblk (c : Dev nD) (t : Fin cfg0.N) : FVec F SY .bf16 :=
  (envIn ⟨(grid0.coords t 0).val, (grid0.coords t 0).isLt⟩ (iblk m c 0 t) (iblk m c 1 t) (iblk m c 2 t) (wtOf (iblk m c 3 t))).y

/-- What is held between points: past a block's first point the scratch holds its transposed weights. -/
def Phi (c : Dev nD) (k : Nat) : sProp 𝕄 :=
  iprop((∃ d : FVec F SWT .fp8e4m3, ⌜k % 16 ≠ 0 → d = wtOf (wblk m c (k / 16))⌝ ∗ owns (c : Thread nD τ) (Memref.whole cc0_scratch0) fullShare d) ∗
    (∃ d, owns (c : Thread nD τ) (Memref.whole cc0_scratch1) fullShare d) ∗ (∃ d, owns (c : Thread nD τ) (Memref.whole cc0_scratch2) fullShare d) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yblk m c t
  Φ k := Phi m c k.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = yblk m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem Phi_castSucc (c : Dev nD) (t : Fin cfg0.N) : (dats m 0 c).Φ t.castSucc = Phi m c t.val := by
  dsimp only [dats]; exact Dat.Φ_castSucc (fun n _ => Phi m c n) t
theorem Phi_succ (c : Dev nD) (t : Fin cfg0.N) : (dats m 0 c).Φ t.succ = Phi m c (t.val + 1) := by
  dsimp only [dats]; rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [Phi_succ, Phi_castSucc, show (dats m 0 c).owesAt () t.succ = (dats m 0 c).owesAt () t.castSucc from rfl,
    after0_0, after0_1, after0_2, after0_3, after0_4]
  unfold Phi
  iintro ⟨⟨⟨%d7, %hd7, H7⟩, H8, H9, Hp⟩, Ho, ⟨%d0, H0⟩, ⟨%d1, H1⟩, ⟨%d2, H2⟩, ⟨%d3, H3⟩, ⟨%d4, H4⟩⟩
  iapply (wp_wand_r Idealize.ShloMosaic.frame (wpE (defs₀ (F := F)) Variants.none (c : Thread nD τ) none) Set.univ)
  isplitl [H0 H1 H2 H3 H4 H7 H8 H9]
  · iapply (sound_kernel (F := F) c (grid0.coords t) _ _ _ _ _ _ _ _ _ _ (Memref.whole cc0_scratch0) (Memref.isWhole_whole _) (Memref.whole cc0_scratch1) (Memref.isWhole_whole _)
      (Memref.whole cc0_scratch2) (Memref.isWhole_whole _) (iblk m c 0 t) (iblk m c 1 t) (iblk m c 2 t) (iblk m c 3 t) _ d7
      (fun h => by rw [iblk3]; exact hd7 (fun h' => h ((cond_iff t).mpr h'))) (R := iprop(emp)))
    isplitl [H0]; · iexact H0
    isplitl [H1]; · iexact H1
    isplitl [H2]; · iexact H2
    isplitl [H3]; · iexact H3
    isplitl [H4]; · iexact H4
    isplitl [H7]; · iexact H7
    isplitl [H8]; · iexact H8
    isplitl [H9]; · iexact H9
    iempintro
  iintro %_ ⟨H0, H1, H2, H4, H7, H8, H9, H3, -⟩
  isplitl [H7 H8 H9 Hp]
  · isplitl [H7]
    · iexists (wtOf (iblk m c 3 t) : FVec F SWT .fp8e4m3)
      isplitl []
      · ipureintro
        intro h
        rw [iblk3, show (t.val + 1) / 16 = t.val / 16 by omega]
      iexact H7
    isplitl [H8]; · iexact H8
    isplitl [H9]; · iexact H9
    iexact Hp
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem Phi_in (c : Dev nD) : (Pipeline.ΦA spec0 c : sProp 𝕄) ⊢ (dats m 0 c).Φ 0 := by
  show _ ⊢ Phi m c 0
  unfold Pipeline.ΦA Phi
  rw [scopedRest0_eq]
  simp only [owns_whole]
  iintro ⟨⟨⟨%f0, H0⟩, H1, H2⟩, Hp⟩
  isplitl [H0]
  · iexists f0
    isplitl []
    · ipureintro; intro h; exact absurd rfl h
    iexact H0
  isplitl [H1]; · iexact H1
  isplitl [H2]; · iexact H2
  iexact Hp

theorem Phi_out (c : Dev nD) : (dats m 0 c).Φ (Fin.last cfg0.N) ⊢ (Pipeline.ΦA spec0 c : sProp 𝕄) := by
  show Phi m c cfg0.N ⊢ _
  unfold Pipeline.ΦA Phi
  rw [scopedRest0_eq]
  simp only [owns_whole]
  iintro ⟨⟨%f0, -, H0⟩, H1, H2, Hp⟩
  isplitl [H0 H1 H2]
  · isplitl [H0]
    · iexists f0; iexact H0
    isplitl [H1]; · iexact H1
    iexact H2
  iexact Hp

set_option backward.isDefEq.respectTransparency.types false in
set_option maxHeartbeats 800000 in
/-- THE LAUNCH. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand
-- ==== Proof.PartsIA.lean ====
module
public import proofs.«01_k».proof.Proof.Walk
public import proofs.«01_k».proof.KernelIdeal
/-!
# The printed parts 625 to 627 run their stretch of the operation list
-/
@[expose] public section
set_option maxRecDepth 65536
set_option maxHeartbeats 0
noncomputable section
namespace Cert.KernelIdeal
open Idealize.ShloMosaic Idealize.SL.Sem Cert.Mm
variable {F : FTy → Type} [FloatOps F] [Facts₀] [Facts]

/-- Whatever the registers the part does not read hold, and whatever runs after it. -/
theorem partsA (i : grid0.Coords) (arg2 : Memref sig .tc .smem S18x144 .f32) (harg2 : arg2.IsWhole) (arg3 : Memref sig .tc .vmem S512x4608 .fp8e4m3) (harg3 : arg3.IsWhole) (arg4 : Memref sig .tc .vmem S32x512 .f32) (harg4 : arg4.IsWhole) (arg5 : Memref sig .tc .vmem S4608x2048 .fp8e4m3) (harg5 : arg5.IsWhole) (arg6 : Memref sig .tc .vmem S512x2048 .bf16) (harg6 : arg6.IsWhole) (arg7 : Memref sig .tc .vmem S2048x4608 .fp8e4m3) (harg7 : arg7.IsWhole) (arg8 : Memref sig .tc .vmem S512x256 .f32) (harg8 : arg8.IsWhole) (arg9 : Memref sig .tc .vmem S512x256 .bf16) (harg9 : arg9.IsWhole) :
    (∀ (g : _ → Prog (TpuEff nD τ sig (Elt F) Λ₀ .tc) PUnit) (K : Cont nD τ sig F Λ₀ PUnit) (arg0 : BitVec 32) (v : FVec F T32 .f32) M s00 s01 s10 s11 t w L X a b,
      (∀ M s00 s01 s10 s11 t w L X a b, g ⟨s10, s11, M⟩ = K M s00 s01 s10 s11 t w L X a b) →
      (k0_part625 i arg2 harg2 arg3 harg3 arg4 harg4 arg5 harg5 arg6 harg6 arg7 harg7 arg8 harg8 arg9 harg9 arg0 s10 s11 M a >>= g) =
        run ⟨arg2, arg3, arg4, arg6, harg6, arg7, arg8, arg9, harg9⟩ ⟨(i 0).val, (i 0).isLt⟩ ((bodyOps.drop 1343).take 1304) K M s00 s01 s10 s11 t w L X a b) ∧
    (∀ (g : _ → Prog (TpuEff nD τ sig (Elt F) Λ₀ .tc) PUnit) (K : Cont nD τ sig F Λ₀ PUnit) (arg0 : BitVec 32) (v : FVec F T32 .f32) M s00 s01 s10 s11 t w L X a b,
      (∀ M s00 s01 s10 s11 t w L X a b (v : FVec F T32 .f32), g ⟨s10, s11, M, a, v⟩ = K M s00 s01 s10 s11 t w L X a b) →
      (k0_part626 i arg2 harg2 arg3 harg3 arg4 harg4 arg5 harg5 arg6 harg6 arg7 harg7 arg8 harg8 arg9 harg9 arg0 s10 s11 M >>= g) =
        run ⟨arg2, arg3, arg4, arg6, harg6, arg7, arg8, arg9, harg9⟩ ⟨(i 0).val, (i 0).isLt⟩ ((bodyOps.drop 2647).take 1304) K M s00 s01 s10 s11 t w L X a b) ∧
    (∀ (g : _ → Prog (TpuEff nD τ sig (Elt F) Λ₀ .tc) PUnit) (K : Cont nD τ sig F Λ₀ PUnit) (arg0 : BitVec 32) (v : FVec F T32 .f32) M s00 s01 s10 s11 t w L X a b,
      (∀ M s00 s01 s10 s11 t w L X a b, g ⟨s00, s01, s10, s11, M, a⟩ = K M s00 s01 s10 s11 t w L X a b) →
      (k0_part627 i arg2 harg2 arg3 harg3 arg4 harg4 arg5 harg5 arg6 harg6 arg7 harg7 arg8 harg8 arg9 harg9 arg0 s10 s11 M a v >>= g) =
        run ⟨arg2, arg3, arg4, arg6, harg6, arg7, arg8, arg9, harg9⟩ ⟨(i 0).val, (i 0).isLt⟩ ((bodyOps.drop 3951).take 1298) K M s00 s01 s10 s11 t w L X a b) := by
  refine ⟨?_, ?_, ?_⟩ <;> intros <;> rename_i hg <;> simp only [run]
  all_goals
    repeat
      first
      | with_reducible refine st_ret ?_
      | with_reducible refine st_bind ?_
      | (with_reducible apply st_lift); (· exact rfl); (· exact rfl); intro _
      | (with_reducible apply st_acc); (· exact rfl); (· exact rfl); (· exact rfl); (· exact rfl); (· exact rfl); intro _
      | (with_reducible apply st_push); (· exact rfl); (· exact rfl); (· exact rfl); (· exact rfl); intro _
      | refine st_bind ?_
      | (with_reducible apply st_any); (· exact rfl); (· exact rfl); intro _
    first
    | exact hg _ _ _ _ _ _ _ _ _ _ _
    | exact hg _ _ _ _ _ _ _ _ _ _ _ _
end Cert.KernelIdeal
-- ==== Proof.PartsIB.lean ====
module
public import proofs.«01_k».proof.Proof.Walk
public import proofs.«01_k».proof.KernelIdeal
/-!
# The printed parts 628 to 630 run their stretch of the operation list
-/
@[expose] public section
set_option maxRecDepth 65536
set_option maxHeartbeats 0
noncomputable section
namespace Cert.KernelIdeal
open Idealize.ShloMosaic Idealize.SL.Sem Cert.Mm
variable {F : FTy → Type} [FloatOps F] [Facts₀] [Facts]

/-- Whatever the registers the part does not read hold, and whatever runs after it. -/
theorem partsB (i : grid0.Coords) (arg2 : Memref sig .tc .smem S18x144 .f32) (harg2 : arg2.IsWhole) (arg3 : Memref sig .tc .vmem S512x4608 .fp8e4m3) (harg3 : arg3.IsWhole) (arg4 : Memref sig .tc .vmem S32x512 .f32) (harg4 : arg4.IsWhole) (arg5 : Memref sig .tc .vmem S4608x2048 .fp8e4m3) (harg5 : arg5.IsWhole) (arg6 : Memref sig .tc .vmem S512x2048 .bf16) (harg6 : arg6.IsWhole) (arg7 : Memref sig .tc .vmem S2048x4608 .fp8e4m3) (harg7 : arg7.IsWhole) (arg8 : Memref sig .tc .vmem S512x256 .f32) (harg8 : arg8.IsWhole) (arg9 : Memref sig .tc .vmem S512x256 .bf16) (harg9 : arg9.IsWhole) :
    (∀ (g : _ → Prog (TpuEff nD τ sig (Elt F) Λ₀ .tc) PUnit) (K : Cont nD τ sig F Λ₀ PUnit) (arg0 : BitVec 32) (v : FVec F T32 .f32) M s00 s01 s10 s11 t w L X a b,
      (∀ M s00 s01 s10 s11 t w L X a b, g ⟨s00, s01, s10, s11, a, b, M⟩ = K M s00 s01 s10 s11 t w L X a b) →
      (k0_part628 i arg2 harg2 arg3 harg3 arg4 harg4 arg5 harg5 arg6 harg6 arg7 harg7 arg8 harg8 arg9 harg9 arg0 s00 s01 s10 s11 M a >>= g) =
        run ⟨arg2, arg3, arg4, arg6, harg6, arg7, arg8, arg9, harg9⟩ ⟨(i 0).val, (i 0).isLt⟩ ((bodyOps.drop 5249).take 1340) K M s00 s01 s10 s11 t w L X a b) ∧
    (∀ (g : _ → Prog (TpuEff nD τ sig (Elt F) Λ₀ .tc) PUnit) (K : Cont nD τ sig F Λ₀ PUnit) (arg0 : BitVec 32) (v : FVec F T32 .f32) M s00 s01 s10 s11 t w L X a b,
      (∀ M s00 s01 s10 s11 t w L X a b, g ⟨s00, s01, s10, s11, M, L⟩ = K M s00 s01 s10 s11 t w L X a b) →
      (k0_part629 i arg2 harg2 arg3 harg3 arg4 harg4 arg5 harg5 arg6 harg6 arg7 harg7 arg8 harg8 arg9 harg9 arg0 s00 s01 s10 s11 a b M >>= g) =
        run ⟨arg2, arg3, arg4, arg6, harg6, arg7, arg8, arg9, harg9⟩ ⟨(i 0).val, (i 0).isLt⟩ ((bodyOps.drop 6589).take 1304) K M s00 s01 s10 s11 t w L X a b) ∧
    (∀ (g : _ → Prog (TpuEff nD τ sig (Elt F) Λ₀ .tc) PUnit) (K : Cont nD τ sig F Λ₀ PUnit) (arg0 : BitVec 32) (v : FVec F T32 .f32) M s00 s01 s10 s11 t w L X a b,
      (∀ M s00 s01 s10 s11 t w L X a b, g ⟨s00, s01, s10, s11, a, M, b⟩ = K M s00 s01 s10 s11 t w L X a b) →
      (k0_part630 i arg2 harg2 arg3 harg3 arg4 harg4 arg5 harg5 arg6 harg6 arg7 harg7 arg8 harg8 arg9 harg9 arg0 s00 s01 s10 s11 M L >>= g) =
        run ⟨arg2, arg3, arg4, arg6, harg6, arg7, arg8, arg9, harg9⟩ ⟨(i 0).val, (i 0).isLt⟩ ((bodyOps.drop 7893).take 1304) K M s00 s01 s10 s11 t w L X a b) := by
  refine ⟨?_, ?_, ?_⟩ <;> intros <;> rename_i hg <;> simp only [run]
  all_goals
    repeat
      first
      | with_reducible refine st_ret ?_
      | with_reducible refine st_bind ?_
      | (with_reducible apply st_lift); (· exact rfl); (· exact rfl); intro _
      | (with_reducible apply st_acc); (· exact rfl); (· exact rfl); (· exact rfl); (· exact rfl); (· exact rfl); intro _
      | (with_reducible apply st_push); (· exact rfl); (· exact rfl); (· exact rfl); (· exact rfl); intro _
      | refine st_bind ?_
      | (with_reducible apply st_any); (· exact rfl); (· exact rfl); intro _
    exact hg _ _ _ _ _ _ _ _ _ _ _
end Cert.KernelIdeal
-- ==== Proof.PartsIC.lean ====
module
public import proofs.«01_k».proof.Proof.Walk
public import proofs.«01_k».proof.KernelIdeal
/-!
# The printed parts 631 to 634 run their stretch of the operation list
-/
@[expose] public section
set_option maxRecDepth 65536
set_option maxHeartbeats 0
noncomputable section
namespace Cert.KernelIdeal
open Idealize.ShloMosaic Idealize.SL.Sem Cert.Mm
variable {F : FTy → Type} [FloatOps F] [Facts₀] [Facts]

/-- Whatever the registers the part does not read hold, and whatever runs after it. -/
theorem partsC (i : grid0.Coords) (arg2 : Memref sig .tc .smem S18x144 .f32) (harg2 : arg2.IsWhole) (arg3 : Memref sig .tc .vmem S512x4608 .fp8e4m3) (harg3 : arg3.IsWhole) (arg4 : Memref sig .tc .vmem S32x512 .f32) (harg4 : arg4.IsWhole) (arg5 : Memref sig .tc .vmem S4608x2048 .fp8e4m3) (harg5 : arg5.IsWhole) (arg6 : Memref sig .tc .vmem S512x2048 .bf16) (harg6 : arg6.IsWhole) (arg7 : Memref sig .tc .vmem S2048x4608 .fp8e4m3) (harg7 : arg7.IsWhole) (arg8 : Memref sig .tc .vmem S512x256 .f32) (harg8 : arg8.IsWhole) (arg9 : Memref sig .tc .vmem S512x256 .bf16) (harg9 : arg9.IsWhole) :
    (∀ (g : _ → Prog (TpuEff nD τ sig (Elt F) Λ₀ .tc) PUnit) (K : Cont nD τ sig F Λ₀ PUnit) (arg0 : BitVec 32) (v : FVec F T32 .f32) M s00 s01 s10 s11 t w L X a b,
      (∀ M s00 s01 s10 s11 t w L X a b, g ⟨s00, s01, s10, s11, M⟩ = K M s00 s01 s10 s11 t w L X a b) →
      (k0_part631 i arg2 harg2 arg3 harg3 arg4 harg4 arg5 harg5 arg6 harg6 arg7 harg7 arg8 harg8 arg9 harg9 arg0 s00 s01 s10 s11 a M b >>= g) =
        run ⟨arg2, arg3, arg4, arg6, harg6, arg7, arg8, arg9, harg9⟩ ⟨(i 0).val, (i 0).isLt⟩ ((bodyOps.drop 9197).take 1304) K M s00 s01 s10 s11 t w L X a b) ∧
    (∀ (g : _ → Prog (TpuEff nD τ sig (Elt F) Λ₀ .tc) PUnit) (K : Cont nD τ sig F Λ₀ PUnit) (arg0 : BitVec 32) (v : FVec F T32 .f32) M s00 s01 s10 s11 t w L X a b,
      (∀ M s00 s01 s10 s11 t w L X a b, g ⟨s00, s01, s10, s11, M, X⟩ = K M s00 s01 s10 s11 t w L X a b) →
      (k0_part632 i arg2 harg2 arg3 harg3 arg4 harg4 arg5 harg5 arg6 harg6 arg7 harg7 arg8 harg8 arg9 harg9 arg0 s00 s01 s10 s11 M >>= g) =
        run ⟨arg2, arg3, arg4, arg6, harg6, arg7, arg8, arg9, harg9⟩ ⟨(i 0).val, (i 0).isLt⟩ ((bodyOps.drop 10501).take 1334) K M s00 s01 s10 s11 t w L X a b) ∧
    (∀ (g : _ → Prog (TpuEff nD τ sig (Elt F) Λ₀ .tc) PUnit) (K : Cont nD τ sig F Λ₀ PUnit) (arg0 : BitVec 32) (v : FVec F T32 .f32) M s00 s01 s10 s11 t w L X a b,
      (∀ M s00 s01 s10 s11 t w L X a b, g ⟨M, s00, t, w⟩ = K M s00 s01 s10 s11 t w L X a b) →
      (k0_part633 i arg2 harg2 arg3 harg3 arg4 harg4 arg5 harg5 arg6 harg6 arg7 harg7 arg8 harg8 arg9 harg9 arg0 s00 s01 s10 s11 M X >>= g) =
        run ⟨arg2, arg3, arg4, arg6, harg6, arg7, arg8, arg9, harg9⟩ ⟨(i 0).val, (i 0).isLt⟩ ((bodyOps.drop 11835).take 1306) K M s00 s01 s10 s11 t w L X a b) ∧
    (∀ (g : _ → Prog (TpuEff nD τ sig (Elt F) Λ₀ .tc) PUnit) (K : Cont nD τ sig F Λ₀ PUnit) (arg0 : BitVec 32) (v : FVec F T32 .f32) M s00 s01 s10 s11 t w L X a b,
      (∀ M s00 s01 s10 s11 t w L X a b, g M = K M s00 s01 s10 s11 t w L X a b) →
      (k0_part634 i arg2 harg2 arg3 harg3 arg4 harg4 arg5 harg5 arg6 harg6 arg7 harg7 arg8 harg8 arg9 harg9 arg0 M s00 t w >>= g) =
        run ⟨arg2, arg3, arg4, arg6, harg6, arg7, arg8, arg9, harg9⟩ ⟨(i 0).val, (i 0).isLt⟩ ((bodyOps.drop 13141).take 489) K M s00 s01 s10 s11 t w L X a b) := by
  refine ⟨?_, ?_, ?_, ?_⟩ <;> intros <;> rename_i hg <;> simp only [run]
  all_goals
    repeat
      first
      | with_reducible refine st_ret ?_
      | with_reducible refine st_bind ?_
      | (with_reducible apply st_lift); (· exact rfl); (· exact rfl); intro _
      | (with_reducible apply st_acc); (· exact rfl); (· exact rfl); (· exact rfl); (· exact rfl); (· exact rfl); intro _
      | (with_reducible apply st_push); (· exact rfl); (· exact rfl); (· exact rfl); (· exact rfl); intro _
      | refine st_bind ?_
      | (with_reducible apply st_any); (· exact rfl); (· exact rfl); intro _
    exact hg _ _ _ _ _ _ _ _ _ _ _
end Cert.KernelIdeal
-- ==== Proof.PartsID.lean ====
module
public import proofs.«01_k».proof.Proof.Walk
public import proofs.«01_k».proof.KernelIdeal
/-!
# The printed part 624: the weight transposition, then the first stretch of the operation list
-/
@[expose] public section
set_option maxRecDepth 65536
set_option maxHeartbeats 0
noncomputable section
namespace Cert.KernelIdeal
open Idealize.ShloMosaic Idealize.SL.Sem Cert.Mm
open Shapes1.Facts₀ K0.Facts₀
variable {F : FTy → Type} [FloatOps F] [Facts₀] [Facts]

/-- The weight transposition, at the first token tile of a block of columns: 144 blocks, one a trip. -/
def prologue (i : grid0.Coords) (arg2 : Memref sig .tc .smem S18x144 .f32) (harg2 : arg2.IsWhole) (arg3 : Memref sig .tc .vmem S512x4608 .fp8e4m3) (harg3 : arg3.IsWhole) (arg4 : Memref sig .tc .vmem S32x512 .f32) (harg4 : arg4.IsWhole) (arg5 : Memref sig .tc .vmem S4608x2048 .fp8e4m3) (harg5 : arg5.IsWhole) (arg6 : Memref sig .tc .vmem S512x2048 .bf16) (harg6 : arg6.IsWhole) (arg7 : Memref sig .tc .vmem S2048x4608 .fp8e4m3) (harg7 : arg7.IsWhole) (arg8 : Memref sig .tc .vmem S512x256 .f32) (harg8 : arg8.IsWhole) (arg9 : Memref sig .tc .vmem S512x256 .bf16) (harg9 : arg9.IsWhole) :
    Prog (TpuEff nD τ sig (Elt F) Λ₀ .tc) PUnit :=
  if k0_h1 : k0_cond1 i = 1#1 then do
    Scf.Loop.for k0_t1_loop (k0_t1_ok i k0_h1) ⟨⟩ fun k0_t1 _ => do
      let v37 : Vec F S256x256 .fp8e4m3 ← Prog.lift (.load arg5 (Rect.unit (s := S4608x2048) (k0_off1 k0_t1) S256x256.size (k0_off1_inb i k0_t1 k0_h1)).toLoadRect (View.loadsAt_vmem h_S256x256))
      have v38 : FVec F S256x256 .bf16 := extf .bf16 v37 bitsLt_fp8e4m3_bf16
      have v39 : FVec F S256x256 .bf16 := transpose S256x256 [1, 0] v38 transposes_S256x256_p1_0_S256x256
      have v40 : FVec F S256x256 .fp8e4m3 := truncf .fp8e4m3 v39 bitsLt_fp8e4m3_bf16
      let _ : Vec F S256x256 .fp8e4m3 ← Prog.lift (.load arg7 (Rect.unit (s := S2048x4608) (k0_off2 k0_t1) S256x256.size (k0_off2_inb i k0_t1 k0_h1)).toLoadRect (View.loadsAt_vmem h_S256x256))
      have v45 : FVec F S256x256 .fp8e4m3 := shapeCast S256x256 v40 shapeCasts_S256x256_S256x256
      Prog.lift (.store arg7 (Rect.unit (s := S2048x4608) (k0_off2 k0_t1) S256x256.size (k0_off2_inb i k0_t1 k0_h1)) v45 Finset.univ (View.stores_vmem h_S256x256 (harg7.storeExact_slice rfl _ (k0_off2_packedfp8e4m3 i k0_t1 k0_h1)) (fun _ => rfl)) (.inl rfl))
      pure ⟨⟩
    pure ⟨⟩
  else do
    pure ⟨⟩

/-- The first part transposes the weights, then starts with an empty matrix unit. -/
theorem partsD (i : grid0.Coords) (arg2 : Memref sig .tc .smem S18x144 .f32) (harg2 : arg2.IsWhole) (arg3 : Memref sig .tc .vmem S512x4608 .fp8e4m3) (harg3 : arg3.IsWhole) (arg4 : Memref sig .tc .vmem S32x512 .f32) (harg4 : arg4.IsWhole) (arg5 : Memref sig .tc .vmem S4608x2048 .fp8e4m3) (harg5 : arg5.IsWhole) (arg6 : Memref sig .tc .vmem S512x2048 .bf16) (harg6 : arg6.IsWhole) (arg7 : Memref sig .tc .vmem S2048x4608 .fp8e4m3) (harg7 : arg7.IsWhole) (arg8 : Memref sig .tc .vmem S512x256 .f32) (harg8 : arg8.IsWhole) (arg9 : Memref sig .tc .vmem S512x256 .bf16) (harg9 : arg9.IsWhole)
    (g : _ → Prog (TpuEff nD τ sig (Elt F) Λ₀ .tc) PUnit) (K : Cont nD τ sig F Λ₀ PUnit) s00 s01 s10 s11 t w L X a b
    (hg : ∀ M s00 s01 s10 s11 t w L X a b, g ⟨BitVec.ofNat 32 (i 0).val, s10, s11, M, a⟩ = K M s00 s01 s10 s11 t w L X a b) :
    (k0_part624 i arg2 harg2 arg3 harg3 arg4 harg4 arg5 harg5 arg6 harg6 arg7 harg7 arg8 harg8 arg9 harg9 >>= g) = (prologue i arg2 harg2 arg3 harg3 arg4 harg4 arg5 harg5 arg6 harg6 arg7 harg7 arg8 harg8 arg9 harg9 >>= fun _ =>
      run ⟨arg2, arg3, arg4, arg6, harg6, arg7, arg8, arg9, harg9⟩ ⟨(i 0).val, (i 0).isLt⟩ (bodyOps.take 1343) K Mxu.init s00 s01 s10 s11 t w L X a b) := by
  refine st_bind ?_
  rw [prologue]
  unfold k0_part1
  by_cases h : k0_cond1 i = 1#1
  · rw [dif_pos h, dif_pos h]
    refine (Prog.bind_assoc _ _ _).trans (Eq.trans ?_ (Prog.bind_assoc _ _ _).symm)
    refine congrArg (Prog.bind _) (funext fun _ => ?_)
    refine Eq.trans ?_ (Prog.bind_ret _ _).symm
    beta_reduce
    simp only [run]
    repeat
      first
      | with_reducible refine st_ret ?_
      | with_reducible refine st_bind ?_
      | (with_reducible apply st_lift); (· exact rfl); (· exact rfl); intro _
      | (with_reducible apply st_acc); (· exact rfl); (· exact rfl); (· exact rfl); (· exact rfl); (· exact rfl); intro _
      | (with_reducible apply st_push); (· exact rfl); (· exact rfl); (· exact rfl); (· exact rfl); intro _
      | refine st_bind ?_
      | (with_reducible apply st_any); (· exact rfl); (· exact rfl); intro _
    exact hg _ _ _ _ _ _ _ _ _ _ _
  · rw [dif_neg h, dif_neg h]
    refine Eq.trans ?_ (Prog.bind_ret _ _).symm
    beta_reduce
    simp only [run]
    repeat
      first
      | with_reducible refine st_ret ?_
      | with_reducible refine st_bind ?_
      | (with_reducible apply st_lift); (· exact rfl); (· exact rfl); intro _
      | (with_reducible apply st_acc); (· exact rfl); (· exact rfl); (· exact rfl); (· exact rfl); (· exact rfl); intro _
      | (with_reducible apply st_push); (· exact rfl); (· exact rfl); (· exact rfl); (· exact rfl); intro _
      | refine st_bind ?_
      | (with_reducible apply st_any); (· exact rfl); (· exact rfl); intro _
    exact hg _ _ _ _ _ _ _ _ _ _ _
end Cert.KernelIdeal
-- ==== Proof.BodyI.lean ====
module
public import proofs.«01_k».proof.Proof.PartsIA
public import proofs.«01_k».proof.Proof.PartsIB
public import proofs.«01_k».proof.Proof.PartsIC
public import proofs.«01_k».proof.Proof.PartsID
/-!
# The printed body is the weight transposition, then the operation list
-/
@[expose] public section
set_option maxRecDepth 65536
set_option maxHeartbeats 0
noncomputable section
namespace Cert.KernelIdeal
open Idealize.ShloMosaic Idealize.SL.Sem Cert.Mm
variable {F : FTy → Type} [FloatOps F] [Facts₀] [Facts]

/-- The body, whatever the registers start with; at the end the matrix units must be drained. -/
theorem body_eq (i : grid0.Coords) (arg2 : Memref sig .tc .smem S18x144 .f32) (harg2 : arg2.IsWhole) (arg3 : Memref sig .tc .vmem S512x4608 .fp8e4m3) (harg3 : arg3.IsWhole) (arg4 : Memref sig .tc .vmem S32x512 .f32) (harg4 : arg4.IsWhole) (arg5 : Memref sig .tc .vmem S4608x2048 .fp8e4m3) (harg5 : arg5.IsWhole) (arg6 : Memref sig .tc .vmem S512x2048 .bf16) (harg6 : arg6.IsWhole) (arg7 : Memref sig .tc .vmem S2048x4608 .fp8e4m3) (harg7 : arg7.IsWhole) (arg8 : Memref sig .tc .vmem S512x256 .f32) (harg8 : arg8.IsWhole) (arg9 : Memref sig .tc .vmem S512x256 .bf16) (harg9 : arg9.IsWhole)
    (v : FVec F T32 .f32) (s00 s01 s10 s11 t w : FVec F T1 .f32) (L : FVec F T32 .fp8e4m3) (X : FVec F T256 .bf16) (a b : FVec F T32 .f32) :
    cc0_block_scaled_matmul i arg2 harg2 arg3 harg3 arg4 harg4 arg5 harg5 arg6 harg6 arg7 harg7 arg8 harg8 arg9 harg9 = (prologue i arg2 harg2 arg3 harg3 arg4 harg4 arg5 harg5 arg6 harg6 arg7 harg7 arg8 harg8 arg9 harg9 >>= fun _ =>
      run ⟨arg2, arg3, arg4, arg6, harg6, arg7, arg8, arg9, harg9⟩ ⟨(i 0).val, (i 0).isLt⟩ bodyOps
        (fun M _ _ _ _ _ _ _ _ _ _ => M.exit >>= fun _ => pure ⟨⟩) (Mxu.init : Mxu F) s00 s01 s10 s11 t w L X a b) := by
  have h0 : ∀ k : Cont nD τ sig F Λ₀ PUnit, run ⟨arg2, arg3, arg4, arg6, harg6, arg7, arg8, arg9, harg9⟩ ⟨(i 0).val, (i 0).isLt⟩ bodyOps k =
      run ⟨arg2, arg3, arg4, arg6, harg6, arg7, arg8, arg9, harg9⟩ ⟨(i 0).val, (i 0).isLt⟩ (bodyOps.take 1343)
        (run ⟨arg2, arg3, arg4, arg6, harg6, arg7, arg8, arg9, harg9⟩ ⟨(i 0).val, (i 0).isLt⟩ (bodyOps.drop 1343) k) := by
    intro k; rw [← run_append, List.take_append_drop]
  rw [h0]
  unfold cc0_block_scaled_matmul
  refine partsD i arg2 harg2 arg3 harg3 arg4 harg4 arg5 harg5 arg6 harg6 arg7 harg7 arg8 harg8 arg9 harg9 _ _ s00 s01 s10 s11 t w L X a b ?_
  intro M s00 s01 s10 s11 t w L X a b
  rw [run_split bodyOps 1343 1304 2647 rfl]
  refine (partsA i arg2 harg2 arg3 harg3 arg4 harg4 arg5 harg5 arg6 harg6 arg7 harg7 arg8 harg8 arg9 harg9).1 _ _ _ v M s00 s01 s10 s11 t w L X a b ?_
  intro M s00 s01 s10 s11 t w L X a b
  rw [run_split bodyOps 2647 1304 3951 rfl]
  refine (partsA i arg2 harg2 arg3 harg3 arg4 harg4 arg5 harg5 arg6 harg6 arg7 harg7 arg8 harg8 arg9 harg9).2.1 _ _ _ v M s00 s01 s10 s11 t w L X a b ?_
  intro M s00 s01 s10 s11 t w L X a b v
  rw [run_split bodyOps 3951 1298 5249 rfl]
  refine (partsA i arg2 harg2 arg3 harg3 arg4 harg4 arg5 harg5 arg6 harg6 arg7 harg7 arg8 harg8 arg9 harg9).2.2 _ _ _ v M s00 s01 s10 s11 t w L X a b ?_
  intro M s00 s01 s10 s11 t w L X a b
  rw [run_split bodyOps 5249 1340 6589 rfl]
  refine (partsB i arg2 harg2 arg3 harg3 arg4 harg4 arg5 harg5 arg6 harg6 arg7 harg7 arg8 harg8 arg9 harg9).1 _ _ _ v M s00 s01 s10 s11 t w L X a b ?_
  intro M s00 s01 s10 s11 t w L X a b
  rw [run_split bodyOps 6589 1304 7893 rfl]
  refine (partsB i arg2 harg2 arg3 harg3 arg4 harg4 arg5 harg5 arg6 harg6 arg7 harg7 arg8 harg8 arg9 harg9).2.1 _ _ _ v M s00 s01 s10 s11 t w L X a b ?_
  intro M s00 s01 s10 s11 t w L X a b
  rw [run_split bodyOps 7893 1304 9197 rfl]
  refine (partsB i arg2 harg2 arg3 harg3 arg4 harg4 arg5 harg5 arg6 harg6 arg7 harg7 arg8 harg8 arg9 harg9).2.2 _ _ _ v M s00 s01 s10 s11 t w L X a b ?_
  intro M s00 s01 s10 s11 t w L X a b
  rw [run_split bodyOps 9197 1304 10501 rfl]
  refine (partsC i arg2 harg2 arg3 harg3 arg4 harg4 arg5 harg5 arg6 harg6 arg7 harg7 arg8 harg8 arg9 harg9).1 _ _ _ v M s00 s01 s10 s11 t w L X a b ?_
  intro M s00 s01 s10 s11 t w L X a b
  rw [run_split bodyOps 10501 1334 11835 rfl]
  refine (partsC i arg2 harg2 arg3 harg3 arg4 harg4 arg5 harg5 arg6 harg6 arg7 harg7 arg8 harg8 arg9 harg9).2.1 _ _ _ v M s00 s01 s10 s11 t w L X a b ?_
  intro M s00 s01 s10 s11 t w L X a b
  rw [run_split bodyOps 11835 1306 13141 rfl]
  refine (partsC i arg2 harg2 arg3 harg3 arg4 harg4 arg5 harg5 arg6 harg6 arg7 harg7 arg8 harg8 arg9 harg9).2.2.1 _ _ _ v M s00 s01 s10 s11 t w L X a b ?_
  intro M s00 s01 s10 s11 t w L X a b
  rw [run_split bodyOps 13141 489 13630 rfl]
  refine (partsC i arg2 harg2 arg3 harg3 arg4 harg4 arg5 harg5 arg6 harg6 arg7 harg7 arg8 harg8 arg9 harg9).2.2.2 _ _ _ v M s00 s01 s10 s11 t w L X a b ?_
  intro M s00 s01 s10 s11 t w L X a b
  simp only [run]
  repeat
    first
    | with_reducible refine st_ret ?_
    | with_reducible refine st_bind ?_
    | (with_reducible apply st_lift); (· exact rfl); (· exact rfl); intro _
  exact rfl
end Cert.KernelIdeal
-- ==== Proof.RunI.lean ====
module
public import proofs.«01_k».proof.Proof.BodyI
public import proofs.«01_k».proof.Proof.Point
public import proofs.«01_k».proof.Proof.Gen.KernelIdeal.Frame
public import Idealize.ShloMosaic.Lib.Claim
/-!
# The run of the kernel

Point by point: the scratch carries the transposed block of weights from the first token tile of a block of columns to the last,
and every point leaves its block of the result.
-/
@[expose] public section
noncomputable section
namespace Cert.KernelIdeal.Hand
open Cert.KernelIdeal Cert.KernelIdeal.Gen Cert.Mm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-! ## The transposition -/

theorem off1_eq : ∀ k : Fin k0_t1_loop.trips, k0_off1 k = ![256 * (k.val / 8), 256 * (k.val % 8)] := by decide +kernel
theorem off2_eq : ∀ k : Fin k0_t1_loop.trips, k0_off2 k = ![256 * (k.val % 8), 256 * (k.val / 8)] := by decide +kernel
theorem trips_eq : k0_t1_loop.trips = 144 := by decide +kernel
theorem cond_iff : ∀ t : Fin grid0.N, k0_cond1 (grid0.coords t) = 1#1 ↔ t.val % 16 = 0 := by decide +kernel
theorem coord0 : ∀ t : Fin grid0.N, (grid0.coords t 0).val = t.val / 16 := by decide +kernel

/-- The transposition, or nothing where the scratch already holds the transposed block. -/
theorem prologue_sound (c : Dev nD) (i : grid0.Coords) (arg2 : Memref sig .tc .smem S18x144 .f32) (harg2 : arg2.IsWhole) (arg3 : Memref sig .tc .vmem S512x4608 .fp8e4m3) (harg3 : arg3.IsWhole) (arg4 : Memref sig .tc .vmem S32x512 .f32) (harg4 : arg4.IsWhole) (arg5 : Memref sig .tc .vmem S4608x2048 .fp8e4m3) (harg5 : arg5.IsWhole) (arg6 : Memref sig .tc .vmem S512x2048 .bf16) (harg6 : arg6.IsWhole) (arg7 : Memref sig .tc .vmem S2048x4608 .fp8e4m3) (harg7 : arg7.IsWhole) (arg8 : Memref sig .tc .vmem S512x256 .f32) (harg8 : arg8.IsWhole) (arg9 : Memref sig .tc .vmem S512x256 .bf16) (harg9 : arg9.IsWhole) (w : FVec F SW .fp8e4m3) (d7 : FVec F SWT .fp8e4m3)
    (hd : k0_cond1 i ≠ 1#1 → d7 = wtOf w) {kk : PUnit → Prog (TpuEff nD τ sig (Elt F) Λ₀ .tc) PUnit} {Q : PUnit → sProp 𝕄} {R : sProp 𝕄}
    (hk : iprop(owns (c : Thread nD τ) arg5 fullShare w ∗ owns (c : Thread nD τ) arg7 fullShare (wtOf w) ∗ R) ⊢ WPa (defs₀ (F := F)) Variants.none c none Set.univ Q (kk ⟨⟩)) :
    iprop(owns (c : Thread nD τ) arg5 fullShare w ∗ owns (c : Thread nD τ) arg7 fullShare d7 ∗ R) ⊢
      WPa (defs₀ (F := F)) Variants.none c none Set.univ Q (prologue i arg2 harg2 arg3 harg3 arg4 harg4 arg5 harg5 arg6 harg6 arg7 harg7 arg8 harg8 arg9 harg9 >>= kk) := by
  unfold prologue
  by_cases h : k0_cond1 i = 1#1
  · rw [dif_pos h]
    rw [Prog.bind_assoc]
    unfold owns
    iintro ⟨⟨%f5, %h5, H5⟩, ⟨%f7, %h7, H7⟩, HR⟩
    iapply (wp_transposes (c := c) arg5 arg7 k0_t1_loop (k0_t1_ok i h) trips_eq k0_off1 k0_off2 (fun k => k0_off1_inb i k h) (fun k => k0_off2_inb i k h)
      off1_eq off2_eq (fun k => View.loadsAt_vmem h_S256x256) (fun k => View.loadsAt_vmem h_S256x256)
      (fun k => View.stores_vmem h_S256x256 (harg7.storeExact_slice rfl _ (k0_off2_packedfp8e4m3 i k h)) (fun _ => rfl)) f5 f7 (R := R) ?_)
    · intro f7' h7'
      refine BIBase.Entails.trans ?_ hk
      unfold owns
      iintro ⟨H5, H7, HR⟩
      isplitl [H5]
      · iexists f5
        isplitl []
        · ipureintro; exact h5
        iexact H5
      isplitl [H7]
      · iexists f7'
        isplitl []
        · ipureintro; rw [h7', h5]
        iexact H7
      iexact HR
    isplitl [H5]
    · iexact H5
    isplitl [H7]
    · iexact H7
    iexact HR
  · rw [dif_neg h]
    obtain rfl := hd h
    exact hk

/-- Entering the body: the transposition, then the rest. -/
theorem sound_join (c : Dev nD) (i : grid0.Coords) (arg2 : Memref sig .tc .smem S18x144 .f32) (harg2 : arg2.IsWhole) (arg3 : Memref sig .tc .vmem S512x4608 .fp8e4m3) (harg3 : arg3.IsWhole) (arg4 : Memref sig .tc .vmem S32x512 .f32) (harg4 : arg4.IsWhole) (arg5 : Memref sig .tc .vmem S4608x2048 .fp8e4m3) (harg5 : arg5.IsWhole) (arg6 : Memref sig .tc .vmem S512x2048 .bf16) (harg6 : arg6.IsWhole) (arg7 : Memref sig .tc .vmem S2048x4608 .fp8e4m3) (harg7 : arg7.IsWhole) (arg8 : Memref sig .tc .vmem S512x256 .f32) (harg8 : arg8.IsWhole) (arg9 : Memref sig .tc .vmem S512x256 .bf16) (harg9 : arg9.IsWhole) (sw : FVec F SSW .f32) (x : FVec F SX .fp8e4m3) (sx : FVec F SSX .f32) (w : FVec F SW .fp8e4m3) (y : FVec F SY .bf16)
    (d7 : FVec F SWT .fp8e4m3) (hd : k0_cond1 i ≠ 1#1 → d7 = wtOf w) {R : sProp 𝕄} {Q : PUnit → sProp 𝕄} {p r : Prog (TpuEff nD τ sig (Elt F) Λ₀ .tc) PUnit}
    (hp : p = (prologue i arg2 harg2 arg3 harg3 arg4 harg4 arg5 harg5 arg6 harg6 arg7 harg7 arg8 harg8 arg9 harg9 >>= fun _ => r))
    (hr : iprop(owns (c : Thread nD τ) arg2 fullShare sw ∗ owns (c : Thread nD τ) arg3 fullShare x ∗ owns (c : Thread nD τ) arg4 fullShare sx ∗
        owns (c : Thread nD τ) arg6 fullShare y ∗ owns (c : Thread nD τ) arg7 fullShare (wtOf w) ∗ (∃ d, owns (c : Thread nD τ) arg8 fullShare d) ∗
        (∃ d, owns (c : Thread nD τ) arg9 fullShare d) ∗ owns (c : Thread nD τ) arg5 fullShare w ∗ R) ⊢ WPa (defs₀ (F := F)) Variants.none c none Set.univ Q r) :
    iprop(owns (c : Thread nD τ) arg2 fullShare sw ∗ owns (c : Thread nD τ) arg3 fullShare x ∗ owns (c : Thread nD τ) arg4 fullShare sx ∗
        owns (c : Thread nD τ) arg5 fullShare w ∗ owns (c : Thread nD τ) arg6 fullShare y ∗ owns (c : Thread nD τ) arg7 fullShare d7 ∗
        (∃ d, owns (c : Thread nD τ) arg8 fullShare d) ∗ (∃ d, owns (c : Thread nD τ) arg9 fullShare d) ∗ R) ⊢
      WPa (defs₀ (F := F)) Variants.none c none Set.univ Q p := by
  subst hp
  iintro ⟨H2, H3, H4, H5, H6, H7, H8, H9, HR⟩
  iapply (prologue_sound c i arg2 harg2 arg3 harg3 arg4 harg4 arg5 harg5 arg6 harg6 arg7 harg7 arg8 harg8 arg9 harg9 w d7 hd (R := iprop(owns (c : Thread nD τ) arg2 fullShare sw ∗ owns (c : Thread nD τ) arg3 fullShare x ∗ owns (c : Thread nD τ) arg4 fullShare sx ∗
        owns (c : Thread nD τ) arg6 fullShare y ∗ (∃ d, owns (c : Thread nD τ) arg8 fullShare d) ∗ (∃ d, owns (c : Thread nD τ) arg9 fullShare d) ∗ R)) ?_)
  · refine BIBase.Entails.trans ?_ hr
    iintro ⟨H5, H7, H2, H3, H4, H6, H8, H9, HR⟩
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H5]; · iexact H5
    iexact HR
  isplitl [H5]; · iexact H5
  isplitl [H7]; · iexact H7
  isplitl [H2]; · iexact H2
  isplitl [H3]; · iexact H3
  isplitl [H4]; · iexact H4
  isplitl [H6]; · iexact H6
  isplitl [H8]; · iexact H8
  isplitl [H9]; · iexact H9
  iexact HR

attribute [local irreducible] bodyOps run in
/-- THE BODY, at any point of the grid. -/
theorem sound_kernel (c : Dev nD) (i : grid0.Coords) (arg2 : Memref sig .tc .smem S18x144 .f32) (harg2 : arg2.IsWhole) (arg3 : Memref sig .tc .vmem S512x4608 .fp8e4m3) (harg3 : arg3.IsWhole) (arg4 : Memref sig .tc .vmem S32x512 .f32) (harg4 : arg4.IsWhole) (arg5 : Memref sig .tc .vmem S4608x2048 .fp8e4m3) (harg5 : arg5.IsWhole) (arg6 : Memref sig .tc .vmem S512x2048 .bf16) (harg6 : arg6.IsWhole) (arg7 : Memref sig .tc .vmem S2048x4608 .fp8e4m3) (harg7 : arg7.IsWhole) (arg8 : Memref sig .tc .vmem S512x256 .f32) (harg8 : arg8.IsWhole) (arg9 : Memref sig .tc .vmem S512x256 .bf16) (harg9 : arg9.IsWhole) (sw : FVec F SSW .f32) (x : FVec F SX .fp8e4m3) (sx : FVec F SSX .f32) (w : FVec F SW .fp8e4m3) (y : FVec F SY .bf16)
    (d7 : FVec F SWT .fp8e4m3) (hd : k0_cond1 i ≠ 1#1 → d7 = wtOf w) {R : sProp 𝕄} :
    iprop(owns (c : Thread nD τ) arg2 fullShare sw ∗ owns (c : Thread nD τ) arg3 fullShare x ∗ owns (c : Thread nD τ) arg4 fullShare sx ∗
        owns (c : Thread nD τ) arg5 fullShare w ∗ owns (c : Thread nD τ) arg6 fullShare y ∗ owns (c : Thread nD τ) arg7 fullShare d7 ∗
        (∃ d, owns (c : Thread nD τ) arg8 fullShare d) ∗ (∃ d, owns (c : Thread nD τ) arg9 fullShare d) ∗ R) ⊢
      WPa (defs₀ (F := F)) Variants.none c none Set.univ
        (fun _ => iprop(owns (c : Thread nD τ) arg2 fullShare sw ∗ owns (c : Thread nD τ) arg3 fullShare x ∗ owns (c : Thread nD τ) arg4 fullShare sx ∗
          owns (c : Thread nD τ) arg6 fullShare (envIn ⟨(i 0).val, (i 0).isLt⟩ sw x sx (wtOf w)).y ∗ owns (c : Thread nD τ) arg7 fullShare (wtOf w) ∗
          (∃ d, owns (c : Thread nD τ) arg8 fullShare d) ∗ (∃ d, owns (c : Thread nD τ) arg9 fullShare d) ∗ owns (c : Thread nD τ) arg5 fullShare w ∗ R))
        (cc0_block_scaled_matmul i arg2 harg2 arg3 harg3 arg4 harg4 arg5 harg5 arg6 harg6 arg7 harg7 arg8 harg8 arg9 harg9) :=
  let v0 : FVec F T32 .f32 := fun _ => sw (Mxu.ix (m := 18) (n := 144) 0 0)
  let v1 : FVec F T1 .f32 := fun _ => sw (Mxu.ix (m := 18) (n := 144) 0 0)
  let vL : FVec F T32 .fp8e4m3 := fun _ => x (Mxu.ix (m := 512) (n := 4608) 0 0)
  let vX : FVec F T256 .bf16 := fun _ => y (Mxu.ix (m := 512) (n := 2048) 0 0)
  sound_join c i arg2 harg2 arg3 harg3 arg4 harg4 arg5 harg5 arg6 harg6 arg7 harg7 arg8 harg8 arg9 harg9 sw x sx w y d7 hd (body_eq i arg2 harg2 arg3 harg3 arg4 harg4 arg5 harg5 arg6 harg6 arg7 harg7 arg8 harg8 arg9 harg9 v0 v1 v1 v1 v1 v1 v1 vL vX v0 v0)
    (rest_sound (c := c) ⟨arg2, arg3, arg4, arg6, harg6, arg7, arg8, arg9, harg9⟩ ⟨(i 0).val, (i 0).isLt⟩ sw x sx (wtOf w) y v1 v1 v1 v1 v1 v1 vL vX v0 v0)

variable (m : (ℓ : Loc nD τ sig) → Buf (Elt F) ℓ) (ρ : Dev nD → PrngReg)

/-! ## The blocks of the arguments -/

/-- The weights' block of columns `n`. -/
def wblk (c : Dev nD) (n : Nat) : FVec F SW .fp8e4m3 := fun i =>
  (m ((c : Thread nD τ).loc main_arg2) : FVec F ⟨2, ![4608, 36864]⟩ .fp8e4m3)
    (Mxu.ix (m := 4608) (n := 36864) ⟨(i 0).val, (i 0).isLt⟩ ⟨(2048 * n + (i 1).val) % 36864, Nat.mod_lt _ (by decide)⟩)

theorem index3 : ∀ t : Fin grid0.N, win0_3.index t 0 * win0_3.size 0 = 0 ∧ win0_3.index t 1 * win0_3.size 1 = 2048 * (t.val / 16) := by decide +kernel

theorem iblk3 (c : Dev nD) (t : Fin cfg0.N) : (iblk m c 3 t : FVec F SW .fp8e4m3) = wblk m c (t.val / 16) := by
  funext i
  have h1 : (i 1).val < 2048 := (i 1).isLt
  have hN : t.val < 288 := N_0 ▸ t.isLt
  show (m ((c : Thread nD τ).loc main_arg2) : FVec F ⟨2, ![4608, 36864]⟩ .fp8e4m3) _ = _
  unfold wblk
  refine congrArg _ ?_
  funext a
  apply Fin.ext
  match a with
  | 0 =>
    show win0_3.index t 0 * win0_3.size 0 + 1 * (i 0).val = (i 0).val
    rw [(index3 t).1]; omega
  | 1 =>
    show win0_3.index t 1 * win0_3.size 1 + 1 * (i 1).val = (2048 * (t.val / 16) + (i 1).val) % 36864
    rw [(index3 t).2]; omega

/-! ## The proof data -/

/-- What a point leaves in the result block. -/
def yblk (c : Dev nD) (t : Fin cfg0.N) : FVec F SY .bf16 :=
  (envIn ⟨(grid0.coords t 0).val, (grid0.coords t 0).isLt⟩ (iblk m c 0 t) (iblk m c 1 t) (iblk m c 2 t) (wtOf (iblk m c 3 t))).y

/-- What is held between points: past a block's first point the scratch holds its transposed weights. -/
def Phi (c : Dev nD) (k : Nat) : sProp 𝕄 :=
  iprop((∃ d : FVec F SWT .fp8e4m3, ⌜k % 16 ≠ 0 → d = wtOf (wblk m c (k / 16))⌝ ∗ owns (c : Thread nD τ) (Memref.whole cc0_scratch0) fullShare d) ∗
    (∃ d, owns (c : Thread nD τ) (Memref.whole cc0_scratch1) fullShare d) ∗ (∃ d, owns (c : Thread nD τ) (Memref.whole cc0_scratch2) fullShare d) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yblk m c t
  Φ k := Phi m c k.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = yblk m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem Phi_castSucc (c : Dev nD) (t : Fin cfg0.N) : (dats m 0 c).Φ t.castSucc = Phi m c t.val := by
  dsimp only [dats]; exact Dat.Φ_castSucc (fun n _ => Phi m c n) t
theorem Phi_succ (c : Dev nD) (t : Fin cfg0.N) : (dats m 0 c).Φ t.succ = Phi m c (t.val + 1) := by
  dsimp only [dats]; rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [Phi_succ, Phi_castSucc, show (dats m 0 c).owesAt () t.succ = (dats m 0 c).owesAt () t.castSucc from rfl,
    after0_0, after0_1, after0_2, after0_3, after0_4]
  unfold Phi
  iintro ⟨⟨⟨%d7, %hd7, H7⟩, H8, H9, Hp⟩, Ho, ⟨%d0, H0⟩, ⟨%d1, H1⟩, ⟨%d2, H2⟩, ⟨%d3, H3⟩, ⟨%d4, H4⟩⟩
  iapply (wp_wand_r Idealize.ShloMosaic.frame (wpE (defs₀ (F := F)) Variants.none (c : Thread nD τ) none) Set.univ)
  isplitl [H0 H1 H2 H3 H4 H7 H8 H9]
  · iapply (sound_kernel (F := F) c (grid0.coords t) _ _ _ _ _ _ _ _ _ _ (Memref.whole cc0_scratch0) (Memref.isWhole_whole _) (Memref.whole cc0_scratch1) (Memref.isWhole_whole _)
      (Memref.whole cc0_scratch2) (Memref.isWhole_whole _) (iblk m c 0 t) (iblk m c 1 t) (iblk m c 2 t) (iblk m c 3 t) _ d7
      (fun h => by rw [iblk3]; exact hd7 (fun h' => h ((cond_iff t).mpr h'))) (R := iprop(emp)))
    isplitl [H0]; · iexact H0
    isplitl [H1]; · iexact H1
    isplitl [H2]; · iexact H2
    isplitl [H3]; · iexact H3
    isplitl [H4]; · iexact H4
    isplitl [H7]; · iexact H7
    isplitl [H8]; · iexact H8
    isplitl [H9]; · iexact H9
    iempintro
  iintro %_ ⟨H0, H1, H2, H4, H7, H8, H9, H3, -⟩
  isplitl [H7 H8 H9 Hp]
  · isplitl [H7]
    · iexists (wtOf (iblk m c 3 t) : FVec F SWT .fp8e4m3)
      isplitl []
      · ipureintro
        intro h
        rw [iblk3, show (t.val + 1) / 16 = t.val / 16 by omega]
      iexact H7
    isplitl [H8]; · iexact H8
    isplitl [H9]; · iexact H9
    iexact Hp
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem Phi_in (c : Dev nD) : (Pipeline.ΦA spec0 c : sProp 𝕄) ⊢ (dats m 0 c).Φ 0 := by
  show _ ⊢ Phi m c 0
  unfold Pipeline.ΦA Phi
  rw [scopedRest0_eq]
  simp only [owns_whole]
  iintro ⟨⟨⟨%f0, H0⟩, H1, H2⟩, Hp⟩
  isplitl [H0]
  · iexists f0
    isplitl []
    · ipureintro; intro h; exact absurd rfl h
    iexact H0
  isplitl [H1]; · iexact H1
  isplitl [H2]; · iexact H2
  iexact Hp

theorem Phi_out (c : Dev nD) : (dats m 0 c).Φ (Fin.last cfg0.N) ⊢ (Pipeline.ΦA spec0 c : sProp 𝕄) := by
  show Phi m c cfg0.N ⊢ _
  unfold Pipeline.ΦA Phi
  rw [scopedRest0_eq]
  simp only [owns_whole]
  iintro ⟨⟨%f0, -, H0⟩, H1, H2, Hp⟩
  isplitl [H0 H1 H2]
  · isplitl [H0]
    · iexists f0; iexact H0
    isplitl [H1]; · iexact H1
    iexact H2
  iexact Hp

set_option backward.isDefEq.respectTransparency.types false in
set_option maxHeartbeats 800000 in
/-- THE LAUNCH. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand
-- ==== Proof.Sums.lean ====
module
public import proofs.«01_k».proof.Proof.Point
public import Idealize.ShloMosaic.Lib.MatmulPlain
public import Mathlib.Data.EReal.Operations
/-!
# The result over the extended reals

One entry of a block: the sum over the groups of a product of codes, summed within the group, times the two scales. And the sum of
scaled products it equals when the scales are finite and not negative.
-/
@[expose] public section
noncomputable section
namespace Cert.Mm
open Idealize.ShloMosaic
open scoped BigOperators

theorem ix_eq {m n : Nat} (r : Fin m) (c : Fin n) : Mxu.ix r c = ValueIdx.ix2 r c := by
  funext a
  match a with
  | ⟨0, _⟩ => rfl
  | ⟨1, _⟩ => rfl

/-- Two places with equal coordinates. -/
theorem idx_ext {m n : Nat} {i j : (⟨2, ![m, n]⟩ : Shape).Idx} (h0 : (i 0).val = (j 0).val) (h1 : (i 1).val = (j 1).val) : i = j := by
  funext a
  apply Fin.ext
  match a with
  | ⟨0, _⟩ => exact h0
  | ⟨1, _⟩ => exact h1

theorem pass_ideal (D : Env Ideal) (v : PassTag) (n : Fin 32) (t : Fin 256) :
    D.pass v (Mxu.ix n t) = ∑ k : Fin 256, (D.wt v.nt v.c v.j (Mxu.ix n k) : EReal) * D.x v.tt v.j (Mxu.ix t k) := by
  have h := Ideal.matmul_transposedRhs_apply (M := 32) (K := 256) (N := 256) (φ₁ := .bf16) (φ₂ := .bf16) none
    (D.wt v.nt v.c v.j : T32.Idx → EReal) (D.x v.tt v.j : T256.Idx → EReal) (fun _ => (0 : EReal)) n t
  simp only [← ix_eq, zero_add] at h
  refine Eq.trans ?_ h
  exact (zero_add _).symm

theorem term_ideal (D : Env Ideal) (v : PassTag) (n : Fin 32) (t : Fin 256) :
    D.term v (Mxu.ix n t) = (D.pass v (Mxu.ix n t) : EReal) * ((D.sx v.j v.tt (Mxu.ix 0 t) : EReal) * D.sw v.j v.nt (half v.c)) := by
  have h : broadcastTo T32 (D.srow ⟨v.tt, v.nt, v.j, half v.c⟩) bc1 (Mxu.ix n t) = D.srow ⟨v.tt, v.nt, v.j, half v.c⟩ (Mxu.ix (m := 1) (n := 256) 0 t) :=
    congrArg (D.srow ⟨v.tt, v.nt, v.j, half v.c⟩) (idx_ext rfl rfl)
  show (D.pass v (Mxu.ix n t) : EReal) * _ = _
  rw [h]
  rfl

theorem part_ideal (D : Env Ideal) (tt : Fin 2) (nt : Fin 4) (c : Fin 16) (i : T32.Idx) :
    ∀ r : Nat, D.part tt nt c r i = ∑ g ∈ Finset.range (2 * (r + 1)), (D.term ⟨tt, nt, jn g, c⟩ i : EReal)
  | 0 => by
    show (_ : EReal) + _ = _
    rw [Finset.sum_range_succ, Finset.sum_range_one]
  | r + 1 => by
    show ((_ : EReal) + D.part tt nt c r i) + _ = _
    rw [show 2 * (r + 1 + 1) = 2 * (r + 1) + 1 + 1 by omega, Finset.sum_range_succ, Finset.sum_range_succ, ← part_ideal D tt nt c i r]
    exact congrArg (· + _) (add_comm _ _)

/-- THE BLOCK: an entry as a sum over the groups. -/
theorem y_ideal (i0 : Fin 18) (sw : FVec Ideal SSW .f32) (x : FVec Ideal SX .fp8e4m3) (sx : FVec Ideal SSX .f32) (w : FVec Ideal SW .fp8e4m3) (i : SY.Idx)
    (T : Fin 512) (N : Fin 2048) (hT : (i 0).val = T.val) (hN : (i 1).val = N.val) :
    (envIn i0 sw x sx (wtOf w)).y i = ∑ g : Fin 18,
      (∑ k : Fin 256, (w (Mxu.ix (m := 4608) (n := 2048) ⟨256 * g.val + k.val, by omega⟩ N) : EReal) * x (Mxu.ix (m := 512) (n := 4608) T ⟨256 * g.val + k.val, by omega⟩)) *
        ((sx (Mxu.ix (m := 32) (n := 512) ⟨g.val, by omega⟩ T) : EReal) * sw (Mxu.ix (m := 18) (n := 144) g ⟨8 * i0.val + N.val / 256, by omega⟩)) := by
  obtain rfl : i = Mxu.ix (m := 512) (n := 2048) T N := idx_ext hT hN
  refine Eq.trans (part_ideal _ _ _ _ _ 8) ?_
  rw [Finset.sum_range]
  refine Finset.sum_congr rfl fun g _ => ?_
  have hj : jn g.val = (⟨g.val, g.isLt⟩ : Fin 18) := Fin.ext (Nat.mod_eq_of_lt g.isLt)
  have hg : g.val < 18 := g.isLt
  rw [hj, term_ideal, pass_ideal]
  refine congrArg₂ (· * ·) (Finset.sum_congr rfl fun k _ => congrArg₂ (· * ·) ?_ ?_) (congrArg₂ (· * ·) ?_ ?_)
  · refine congrArg w (idx_ext ?_ ?_)
    · show 256 * g.val + 1 * k.val = 256 * g.val + k.val
      omega
    · show 512 * (N.val / 512) + 32 * (4 * (N.val % 512 / 128) + N.val % 128 / 32) + 1 * (N.val % 128 % 32) = N.val
      omega
  · refine congrArg x (idx_ext ?_ ?_)
    · show 256 * (T.val / 256) + 1 * (128 * (T.val % 256 / 128) + T.val % 128) = T.val
      omega
    · show 256 * g.val + 1 * k.val = 256 * g.val + k.val
      omega
  · refine congrArg sx (idx_ext ?_ ?_)
    · show g.val + 1 * 0 = g.val
      omega
    · show 256 * (T.val / 256) + 1 * (128 * (T.val % 256 / 128) + T.val % 128) = T.val
      omega
  · refine congrArg sw (idx_ext ?_ ?_)
    · show g.val + 1 * 0 = g.val
      omega
    · show (Scalar.indexCast _).toNat + 1 * 0 = 8 * i0.val + N.val / 256
      rw [offW_col]
      show 8 * i0.val + 2 * (N.val / 512) + (4 * (N.val % 512 / 128) + N.val % 128 / 32) / 8 + 1 * 0 = _
      omega

/-- A factor that is finite and not negative goes into a sum. -/
theorem sum_mul_of_nonneg {ι : Type} (s : Finset ι) (f : ι → EReal) {a : EReal} (h0 : 0 ≤ a) (ht : a ≠ ⊤) :
    (∑ k ∈ s, f k) * a = ∑ k ∈ s, f k * a := by
  classical
  induction s using Finset.induction_on with
  | empty => simp
  | insert k s hk ih =>
    rw [Finset.sum_insert hk, Finset.sum_insert hk, ← ih, mul_comm, EReal.left_distrib_of_nonneg_of_ne_top h0 ht, mul_comm a, mul_comm a]

theorem mul_ne_top {a b : EReal} (ha : 0 ≤ a) (ha' : a ≠ ⊤) (hb : 0 ≤ b) (hb' : b ≠ ⊤) : a * b ≠ ⊤ := by
  lift a to ℝ using ⟨ha', fun h => by rw [h] at ha; exact absurd ha (by simp)⟩
  lift b to ℝ using ⟨hb', fun h => by rw [h] at hb; exact absurd hb (by simp)⟩
  rw [← EReal.coe_mul]
  exact EReal.coe_ne_top _

/-- The sum of scaled group sums is the sum of scaled products. -/
theorem groups_eq (X W SA SB : Nat → EReal) (hA : ∀ g, 0 ≤ SA g ∧ SA g ≠ ⊤) (hB : ∀ g, 0 ≤ SB g ∧ SB g ≠ ⊤) :
    (∑ g : Fin 18, (∑ k : Fin 256, W (256 * g.val + k.val) * X (256 * g.val + k.val)) * (SA g.val * SB g.val)) =
      ∑ k : Fin 4608, (X k.val * SA (k.val / 256)) * (W k.val * SB (k.val / 256)) := by
  have e : ∀ f : Nat → EReal, (∑ k : Fin 4608, f k.val) = ∑ g : Fin 18, ∑ k : Fin 256, f (256 * g.val + k.val) := by
    intro f
    rw [← Fintype.sum_prod_type', ← Equiv.sum_comp (finProdFinEquiv (m := 18) (n := 256))]
    refine Finset.sum_congr rfl fun p _ => congrArg f ?_
    show p.2.val + 256 * p.1.val = _
    omega
  rw [e fun k => X k * SA (k / 256) * (W k * SB (k / 256))]
  refine Finset.sum_congr rfl fun g _ => ?_
  rw [sum_mul_of_nonneg _ _ (mul_nonneg (hA g).1 (hB g).1) (mul_ne_top (hA g).1 (hA g).2 (hB g).1 (hB g).2)]
  refine Finset.sum_congr rfl fun k _ => ?_
  rw [show (256 * g.val + k.val) / 256 = g.val by omega]
  ac_rfl
end Cert.Mm
-- ==== Proof.ValI.lean ====
module
public import proofs.«01_k».proof.Proof.RunI
public import proofs.«01_k».proof.Proof.Sums
/-!
# What the kernel's result array ends holding, over the extended reals

Every block is the block of one array, and the blocks tile it.
-/
@[expose] public section
noncomputable section
namespace Cert.KernelIdeal.Hand
open Cert.KernelIdeal Cert.KernelIdeal.Gen Cert.Mm
open Idealize.ShloMosaic Idealize.ShloMosaic.TcCoe Idealize.SL.Sem
open Idealize.ShloMosaic.Pipeline (Dat Cfg Window)
open scoped BigOperators

variable (m : (ℓ : Loc nD τ sig) → Buf (Elt Ideal) ℓ) (ρ : Dev nD → PrngReg)

/-- The arguments as arrays of numbers. -/
abbrev aX (c : Dev nD) : FVec Ideal ⟨2, ![8192, 4608]⟩ .fp8e4m3 := m ((c : Thread nD τ).loc main_arg0)
abbrev aSX (c : Dev nD) : FVec Ideal ⟨2, ![32, 8192]⟩ .f32 := m ((c : Thread nD τ).loc main_arg1)
abbrev aW (c : Dev nD) : FVec Ideal ⟨2, ![4608, 36864]⟩ .fp8e4m3 := m ((c : Thread nD τ).loc main_arg2)
abbrev aSW (c : Dev nD) : FVec Ideal ⟨2, ![18, 144]⟩ .f32 := m ((c : Thread nD τ).loc main_arg3)

/-- THE RESULT: an entry as a sum over the groups of codes. -/
def out (c : Dev nD) : FVec Ideal ⟨2, ![8192, 36864]⟩ .bf16 := fun i =>
  have h0 : (i 0).val < 8192 := (i 0).isLt
  have h1 : (i 1).val < 36864 := (i 1).isLt
  ∑ g : Fin 18,
    (∑ k : Fin 256, (aW m c (Mxu.ix (m := 4608) (n := 36864) ⟨256 * g.val + k.val, by omega⟩ ⟨(i 1).val, h1⟩) : EReal) *
      aX m c (Mxu.ix (m := 8192) (n := 4608) ⟨(i 0).val, h0⟩ ⟨256 * g.val + k.val, by omega⟩)) *
    ((aSX m c (Mxu.ix (m := 32) (n := 8192) ⟨g.val, by omega⟩ ⟨(i 0).val, h0⟩) : EReal) *
      aSW m c (Mxu.ix (m := 18) (n := 144) g ⟨(i 1).val / 256, by omega⟩))

theorem index0 : ∀ t : Fin grid0.N, win0_0.index t 0 * win0_0.size 0 = 0 ∧ win0_0.index t 1 * win0_0.size 1 = 0 := by decide +kernel
theorem index1 : ∀ t : Fin grid0.N, win0_1.index t 0 * win0_1.size 0 = 512 * (t.val % 16) ∧ win0_1.index t 1 * win0_1.size 1 = 0 := by decide +kernel
theorem index2 : ∀ t : Fin grid0.N, win0_2.index t 0 * win0_2.size 0 = 0 ∧ win0_2.index t 1 * win0_2.size 1 = 512 * (t.val % 16) := by decide +kernel
theorem index4 : ∀ t : Fin grid0.N, (win0_4.index t 0 * win0_4.size 0 = 512 * (t.val % 16) ∧ win0_4.xsize (grid0.coords t) 0 = 512) ∧
    win0_4.index t 1 * win0_4.size 1 = 2048 * (t.val / 16) ∧ win0_4.xsize (grid0.coords t) 1 = 2048 := by decide +kernel

theorem iblk0 (c : Dev nD) (t : Fin cfg0.N) (j : Fin 18) (b : Fin 144) :
    (iblk m c 0 t : FVec Ideal SSW .f32) (Mxu.ix j b) = aSW m c (Mxu.ix j b) := by
  refine congrArg (aSW m c) (idx_ext ?_ ?_)
  · show win0_0.index t 0 * win0_0.size 0 + 1 * j.val = j.val
    rw [(index0 t).1]; omega
  · show win0_0.index t 1 * win0_0.size 1 + 1 * b.val = b.val
    rw [(index0 t).2]; omega

theorem iblk1 (c : Dev nD) (t : Fin cfg0.N) (r : Fin 512) (k : Fin 4608) :
    (iblk m c 1 t : FVec Ideal SX .fp8e4m3) (Mxu.ix r k) = aX m c (Mxu.ix (m := 8192) ⟨512 * (t.val % 16) + r.val, by omega⟩ k) := by
  refine congrArg (aX m c) (idx_ext ?_ ?_)
  · show win0_1.index t 0 * win0_1.size 0 + 1 * r.val = 512 * (t.val % 16) + r.val
    rw [(index1 t).1]; omega
  · show win0_1.index t 1 * win0_1.size 1 + 1 * k.val = k.val
    rw [(index1 t).2]; omega

theorem iblk2 (c : Dev nD) (t : Fin cfg0.N) (g : Fin 32) (r : Fin 512) :
    (iblk m c 2 t : FVec Ideal SSX .f32) (Mxu.ix g r) = aSX m c (Mxu.ix (n := 8192) g ⟨512 * (t.val % 16) + r.val, by omega⟩) := by
  refine congrArg (aSX m c) (idx_ext ?_ ?_)
  · show win0_2.index t 0 * win0_2.size 0 + 1 * g.val = g.val
    rw [(index2 t).1]; omega
  · show win0_2.index t 1 * win0_2.size 1 + 1 * r.val = 512 * (t.val % 16) + r.val
    rw [(index2 t).2]; omega

theorem flushed_eq (c : Dev nD) (t : Fin cfg0.N) :
    (dats m 0 c).flushed 4 t = (win0_4.blk t).view.read (Elt Ideal) (out m c) := by
  have hN : t.val < 288 := N_0 ▸ t.isLt
  show (cfg0.win 4).cut (grid0.coords t) ((dats m 0 c).after 4 t) = _
  rw [after0_4]
  funext i
  have h0 : (i 0).val < 512 := (index4 t).1.2 ▸ (i 0).isLt
  have h1 : (i 1).val < 2048 := (index4 t).2.2 ▸ (i 1).isLt
  refine Eq.trans (y_ideal _ _ _ _ _ _ ⟨(i 0).val, h0⟩ ⟨(i 1).val, h1⟩ rfl rfl) ?_
  have e0 : (((win0_4.rect t).toLoadRect.idx i) 0).val = 512 * (t.val % 16) + (i 0).val := by
    show win0_4.index t 0 * win0_4.size 0 + 1 * (i 0).val = _
    rw [(index4 t).1.1]; omega
  have e1 : (((win0_4.rect t).toLoadRect.idx i) 1).val = 2048 * (t.val / 16) + (i 1).val := by
    show win0_4.index t 1 * win0_4.size 1 + 1 * (i 1).val = _
    rw [(index4 t).2.1]; omega
  show _ = out m c ((win0_4.rect t).toLoadRect.idx i)
  unfold out
  refine Finset.sum_congr rfl fun g _ => ?_
  have hg : g.val < 18 := g.isLt
  rw [iblk0, iblk2, iblk3]
  simp only [iblk1]
  refine congrArg₂ (· * ·) (Finset.sum_congr rfl fun k _ => congrArg₂ (· * ·) ?_ ?_) (congrArg₂ (· * ·) ?_ ?_)
  · refine congrArg (aW m c) (idx_ext rfl ?_)
    show (2048 * (t.val / 16) + (i 1).val) % 36864 = (((win0_4.rect t).toLoadRect.idx i) 1).val
    rw [e1]; omega
  · exact congrArg (aX m c) (idx_ext e0.symm rfl)
  · exact congrArg (aSX m c) (idx_ext rfl e0.symm)
  · refine congrArg (aSW m c) (idx_ext rfl ?_)
    show 8 * (grid0.coords t 0).val + (i 1).val / 256 = (((win0_4.rect t).toLoadRect.idx i) 1).val / 256
    rw [e1, coord0]; omega

theorem mem_blk (t : Fin cfg0.N) (i : S8192x36864.Idx) :
    i ∈ ((cfg0.win 4).blk t).view.set ↔ (512 * (t.val % 16) ≤ (i 0 : Nat) ∧ (i 0 : Nat) < 512 * (t.val % 16) + 512) ∧
      2048 * (t.val / 16) ≤ (i 1 : Nat) ∧ (i 1 : Nat) < 2048 * (t.val / 16) + 2048 := by
  show i ∈ ((View.whole main_v0).slice (win0_4.rect t)).set ↔ _
  rw [View.set_slice_whole, Rect.mem_set_unit]
  have e := index4 t
  refine ⟨fun h => ⟨?_, ?_⟩, fun h a => ?_⟩
  · have : win0_4.index t 0 * win0_4.size 0 ≤ (i 0 : Nat) ∧ (i 0 : Nat) < win0_4.index t 0 * win0_4.size 0 + win0_4.xsize (grid0.coords t) 0 := h 0
    rw [e.1.1, e.1.2] at this; exact this
  · have : win0_4.index t 1 * win0_4.size 1 ≤ (i 1 : Nat) ∧ (i 1 : Nat) < win0_4.index t 1 * win0_4.size 1 + win0_4.xsize (grid0.coords t) 1 := h 1
    rw [e.2.1, e.2.2] at this; exact this
  · match a with
    | ⟨0, _⟩ =>
      show win0_4.index t 0 * win0_4.size 0 ≤ (i 0 : Nat) ∧ (i 0 : Nat) < win0_4.index t 0 * win0_4.size 0 + win0_4.xsize (grid0.coords t) 0
      rw [e.1.1, e.1.2]; exact h.1
    | ⟨1, _⟩ =>
      show win0_4.index t 1 * win0_4.size 1 ≤ (i 1 : Nat) ∧ (i 1 : Nat) < win0_4.index t 1 * win0_4.size 1 + win0_4.xsize (grid0.coords t) 1
      rw [e.2.1, e.2.2]; exact h.2

/-- The blocks tile the result. -/
theorem cover (i : S8192x36864.Idx) : ∃ t : Fin cfg0.N, (cfg0.win 4).flush t = true ∧ i ∈ ((cfg0.win 4).blk t).view.set := by
  have h0 : (i 0 : Nat) < 8192 := (i 0).isLt
  have h1 : (i 1 : Nat) < 36864 := (i 1).isLt
  have hN : cfg0.N = 288 := N_0
  have ht : 16 * ((i 1 : Nat) / 2048) + (i 0 : Nat) / 512 < cfg0.N := by omega
  refine ⟨⟨_, ht⟩, flush0_4 _, ?_⟩
  rw [mem_blk]
  dsimp only
  omega

theorem final_o (c : Dev nD) : (dats m 0 c).arrAt 4 cfg0.N = out m c :=
  (dats m 0 c).arrAt_eq_of_cover 4 (out m c) (fun t _ => flushed_eq m c t) cover

/-- The run, read: the result, and the arguments as launched. -/
theorem run_out : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final_o m c), ((h c).1 1).trans ((dats m 0 c).arrAt_in 1 rfl _),
      ((h c).1 2).trans ((dats m 0 c).arrAt_in 2 rfl _), ((h c).1 3).trans ((dats m 0 c).arrAt_in 3 rfl _),
      ((h c).1 0).trans ((dats m 0 c).arrAt_in 0 rfl _)⟩)
    (run_main m ρ)
end Cert.KernelIdeal.Hand
-- ==== Proof.RefI.lean ====
module
public import proofs.«01_k».proof.Proof.Gen.ReferenceIdeal
public import proofs.«01_k».proof.Proof.Gen.ReferenceIdeal.Frame
public import Idealize.ShloMosaic.Lib.StableHlo.Run
public import Idealize.ShloMosaic.Lib.Pipeline.Value
public import Idealize.ShloMosaic.Lib.Pointwise
public import Idealize.ShloMosaic.Lib.Claim
/-!
# What the reference's result array ends holding, over the extended reals

The host lines spread the scales over the codes they belong to; the one block is the whole product.
-/
@[expose] public section
noncomputable section
namespace Cert.ReferenceIdeal.Hand
open Cert.ReferenceIdeal Cert.ReferenceIdeal.Gen
open Idealize.ShloMosaic Idealize.ShloMosaic.TcCoe Idealize.SL.Sem
open Idealize.ShloMosaic.Pipeline (Dat Cfg Window)
open scoped BigOperators

/-- The token scales, one per code. -/
def xsOf (s : FVec Ideal S32x8192 .f32) : FVec Ideal S8192x4608 .bf16 :=
  shapeCast S8192x4608 (broadcastInDim S8192x18x256 ![0, 1] bcast_S8192x18_S8192x18x256_0_1
    (truncf .bf16 (transpose S8192x18 [1, 0] (extractStridedSlice S18x8192 ![0, 0] s slices_S32x8192_S18x8192_0_0)
      transposes_S18x8192_S8192x18_1_0) bitsLt_bf16_f32)) shapeCasts_S8192x18x256_S8192x4608

/-- The weight scales, one per code. -/
def wsOf (s : FVec Ideal S18x144 .f32) : FVec Ideal S4608x36864 .bf16 :=
  shapeCast S4608x36864 (broadcastInDim S4608x144x256 ![0, 1] bcast_S4608x144_S4608x144x256_0_1
    (shapeCast S4608x144 (broadcastInDim S18x256x144 ![0, 2] bcast_S18x144_S18x256x144_0_2
      (truncf .bf16 s bitsLt_bf16_f32)) shapeCasts_S18x256x144_S4608x144)) shapeCasts_S4608x144x256_S4608x36864

/-- Code `k` of token `T` has the scale of its group, `k / 256`. -/
theorem xsOf_apply (s : FVec Ideal S32x8192 .f32) (T : Fin 8192) (k : Fin 4608) :
    xsOf s (ix2 T k) = s (ix2 (⟨k.val / 256, by omega⟩ : Fin 32) T) := by
  pointwise [xsOf]

/-- Code `k, N` of the weights has the scale of its block. -/
theorem wsOf_apply (s : FVec Ideal S18x144 .f32) (k : Fin 4608) (N : Fin 36864) :
    wsOf s (ix2 k N) = s (ix2 (⟨k.val / 256, by omega⟩ : Fin 18) (⟨N.val / 256, by omega⟩ : Fin 144)) := by
  pointwise [wsOf]

variable (m : (ℓ : Loc nD τ sig) → Buf (Elt Ideal) ℓ) (ρ : Dev nD → PrngReg)

theorem V_v4 (c : Dev nD) : V m c main_v4 = xsOf (m ((c : Thread nD τ).loc main_arg1)) := by
  unfold_abbrev_sides
  after_results
  rfl

theorem V_v9 (c : Dev nD) : V m c main_v9 = wsOf (m ((c : Thread nD τ).loc main_arg3)) := by
  unfold_abbrev_sides
  after_results
  rfl

/-- The arguments as arrays of numbers. -/
abbrev aX (c : Dev nD) : FVec Ideal S8192x4608 .fp8e4m3 := m ((c : Thread nD τ).loc main_arg0)
abbrev aSX (c : Dev nD) : FVec Ideal S32x8192 .f32 := m ((c : Thread nD τ).loc main_arg1)
abbrev aW (c : Dev nD) : FVec Ideal S4608x36864 .fp8e4m3 := m ((c : Thread nD τ).loc main_arg2)
abbrev aSW (c : Dev nD) : FVec Ideal S18x144 .f32 := m ((c : Thread nD τ).loc main_arg3)

/-- THE RESULT: the product of the scaled codes. -/
def out (c : Dev nD) : FVec Ideal S8192x36864 .bf16 :=
  k0_pay1 (aX m c) (xsOf (aSX m c)) (aW m c) (wsOf (aSW m c))

theorem out_apply (c : Dev nD) (T : Fin 8192) (N : Fin 36864) :
    out m c (ix2 T N) = ∑ k : Fin 4608, ((aX m c (ix2 T k) : EReal) * aSX m c (ix2 (⟨k.val / 256, by omega⟩ : Fin 32) T)) *
      ((aW m c (ix2 k N) : EReal) * aSW m c (ix2 (⟨k.val / 256, by omega⟩ : Fin 18) (⟨N.val / 256, by omega⟩ : Fin 144))) := by
  unfold out
  pointwise [k0_pay1]
  simp only [xsOf_apply, wsOf_apply]

theorem hz : (![0, 0] : Fin 2 → Nat) = fun _ => 0 := funext fun a => by fin_cases a <;> rfl

/-- The one block of each input window is its whole array. -/
theorem iblk_0 (c : Dev nD) (t : Fin cfg0.N) : iblk m c 0 t = aX m c := by
  rcases fin_N0 t with rfl
  funext i
  refine Eq.trans (congrFun (V_main_arg0 m c) _) (congrArg (aX m c) (funext fun a => Fin.ext ?_))
  match a with
  | ⟨0, _⟩ => show 0 * 8192 + 1 * (i 0).val = (i 0).val; omega
  | ⟨1, _⟩ => show 0 * 4608 + 1 * (i 1).val = (i 1).val; omega

theorem iblk_1 (c : Dev nD) (t : Fin cfg0.N) : iblk m c 1 t = xsOf (aSX m c) := by
  rcases fin_N0 t with rfl
  funext i
  refine Eq.trans (congrFun (V_v4 m c) _) (congrArg (xsOf (aSX m c)) (funext fun a => Fin.ext ?_))
  match a with
  | ⟨0, _⟩ => show 0 * 8192 + 1 * (i 0).val = (i 0).val; omega
  | ⟨1, _⟩ => show 0 * 4608 + 1 * (i 1).val = (i 1).val; omega

theorem iblk_2 (c : Dev nD) (t : Fin cfg0.N) : iblk m c 2 t = aW m c := by
  rcases fin_N0 t with rfl
  funext i
  refine Eq.trans (congrFun (V_main_arg2 m c) _) (congrArg (aW m c) (funext fun a => Fin.ext ?_))
  match a with
  | ⟨0, _⟩ => show 0 * 4608 + 1 * (i 0).val = (i 0).val; omega
  | ⟨1, _⟩ => show 0 * 36864 + 1 * (i 1).val = (i 1).val; omega

theorem iblk_3 (c : Dev nD) (t : Fin cfg0.N) : iblk m c 3 t = wsOf (aSW m c) := by
  rcases fin_N0 t with rfl
  funext i
  refine Eq.trans (congrFun (V_v9 m c) _) (congrArg (wsOf (aSW m c)) (funext fun a => Fin.ext ?_))
  match a with
  | ⟨0, _⟩ => show 0 * 4608 + 1 * (i 0).val = (i 0).val; omega
  | ⟨1, _⟩ => show 0 * 36864 + 1 * (i 1).val = (i 1).val; omega

/-- The store through the whole buffer leaves the whole product. -/
theorem out0_eq (x0 : Vec Ideal S8192x4608 .fp8e4m3) (x1 : Vec Ideal S8192x4608 .bf16) (x2 : Vec Ideal S4608x36864 .fp8e4m3)
    (x3 : Vec Ideal S4608x36864 .bf16) : out0_4 x0 x1 x2 x3 = k0_pay1 x0 x1 x2 x3 := by
  unfold out0_4
  rw [View.canon_unit_zero hz, View.ld_unit_zero hz, View.ld_unit_zero hz, View.ld_unit_zero hz, View.ld_unit_zero hz]

theorem flushed_eq (c : Dev nD) (t : Fin cfg0.N) :
    (dats m 0 c).flushed 4 t = (win0_4.blk t).view.read (Elt Ideal) (out m c) := by
  show (cfg0.win 4).cut (grid0.coords t) ((dats m 0 c).after 4 t) = _
  rw [after0_4, iblk_0, iblk_1, iblk_2, iblk_3, out0_eq]
  rcases fin_N0 t with rfl
  funext i
  show out m c _ = out m c _
  refine congrArg (out m c) (funext fun a => Fin.ext ?_)
  match a with
  | ⟨0, _⟩ => show (i 0).val = 0 * 8192 + 1 * (i 0).val; omega
  | ⟨1, _⟩ => show (i 1).val = 0 * 36864 + 1 * (i 1).val; omega

theorem mem_blk (t : Fin cfg0.N) (i : S8192x36864.Idx) : i ∈ ((cfg0.win 4).blk t).view.set := by
  show i ∈ ((View.whole main_v10).slice (win0_4.rect t)).set
  rw [View.set_slice_whole, Rect.mem_set_unit]
  have h0 : (i 0 : Nat) < 8192 := (i 0).isLt
  have h1 : (i 1 : Nat) < 36864 := (i 1).isLt
  have e : win0_4.index t 0 * win0_4.size 0 = 0 ∧ win0_4.xsize (grid0.coords t) 0 = 8192
      ∧ win0_4.index t 1 * win0_4.size 1 = 0 ∧ win0_4.xsize (grid0.coords t) 1 = 36864 := by
    rcases fin_N0 t with rfl; decide +kernel
  intro a
  match a with
  | ⟨0, _⟩ => show win0_4.index t 0 * win0_4.size 0 ≤ (i 0 : Nat) ∧ (i 0 : Nat) < win0_4.index t 0 * win0_4.size 0 + win0_4.xsize (grid0.coords t) 0
              rw [e.1, e.2.1]; omega
  | ⟨1, _⟩ => show win0_4.index t 1 * win0_4.size 1 ≤ (i 1 : Nat) ∧ (i 1 : Nat) < win0_4.index t 1 * win0_4.size 1 + win0_4.xsize (grid0.coords t) 1
              rw [e.2.2.1, e.2.2.2]; omega

theorem cover (i : S8192x36864.Idx) : ∃ t : Fin cfg0.N, (cfg0.win 4).flush t = true ∧ i ∈ ((cfg0.win 4).blk t).view.set := by
  have hN : cfg0.N = 1 := N_0
  exact ⟨⟨0, by omega⟩, flush0_4 _, mem_blk _ i⟩

theorem final_o (c : Dev nD) : (dats m 0 c).arrAt 4 cfg0.N = out m c :=
  (dats m 0 c).arrAt_eq_of_cover 4 (out m c) (fun t _ => flushed_eq m c t) cover

/-- The run, read: the result, and the arguments as launched. -/
theorem run_out : θ_run defs (onTc (τ := τ) (main (F := Ideal))) ⟨m, fun _ => 0, ρ⟩ fun r => ∀ c : Dev nD,
      r.2.mem ((c : Thread nD τ).loc main_v10) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final_o m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)
end Cert.ReferenceIdeal.Hand
-- ==== Proof.PreI.lean ====
module
public import proofs.«01_k».proof.Pre_scales_ok
public import proofs.«01_k».proof.Proof.Gen.Pre_scales_ok
public import Idealize.ShloMosaic.Lib.ReduceAll
public import Idealize.ShloMosaic.Lib.Pointwise
/-!
# The precondition, read back as inequalities
-/
@[expose] public section
noncomputable section
namespace Cert.Alg
open Idealize.ShloMosaic Idealize.SL.Sem
open scoped BigOperators

instance : Subsingleton Cert.Pre_scales_ok.S_.Idx := ⟨fun a b => funext fun i => i.elim0⟩

theorem ofBool_eq_one (p : Bool) : (BitVec.ofBool p = 1#1) ↔ p = true := by cases p <;> decide

/-- What the two comparisons say of one scale. -/
theorem scale_ok {x c : EReal} (h : IntOp.andi (BitVec.ofBool (decide (0 ≤ x))) (BitVec.ofBool (decide (x < c))) = 1#1) :
    0 ≤ x ∧ x ≠ ⊤ := by
  obtain ⟨h0, h1⟩ := IntOp.andi_eq_one.1 h
  exact ⟨of_decide_eq_true ((ofBool_eq_one _).1 h0), ne_top_of_lt (of_decide_eq_true ((ofBool_eq_one _).1 h1))⟩

/-- THE PRECONDITION, READ: every scale the product reads is not negative and not infinite. -/
theorem scales_of_pre [Cert.Pre_scales_ok.Facts] (a0 : FVec Ideal ⟨2, ![8192, 4608]⟩ .fp8e4m3) (a1 : FVec Ideal ⟨2, ![32, 8192]⟩ .f32)
    (a2 : FVec Ideal ⟨2, ![4608, 36864]⟩ .fp8e4m3) (a3 : FVec Ideal ⟨2, ![18, 144]⟩ .f32)
    (h : Cert.Pre_scales_ok.fn (F := Ideal) a0 a1 a2 a3 = fun _ => 1#1) :
    (∀ (g : Fin 18) (T : Fin 8192), 0 ≤ (a1 (ix2 (⟨g.val, by omega⟩ : Fin 32) T) : EReal) ∧ (a1 (ix2 (⟨g.val, by omega⟩ : Fin 32) T) : EReal) ≠ ⊤) ∧
    ∀ (g : Fin 18) (b : Fin 144), 0 ≤ (a3 (ix2 g b) : EReal) ∧ (a3 (ix2 g b) : EReal) ≠ ⊤ := by
  have e := congrFun h (fun i => i.elim0)
  unfold Cert.Pre_scales_ok.fn at e
  obtain ⟨e1, e2⟩ := IntOp.andi_eq_one.1 e
  refine ⟨fun g T => ?_, fun g b => ?_⟩
  · have e := Host.reduce_andi_all _ _ _ _ _ e1 (ix2 g T)
    pointwise at e
    exact scale_ok e
  · have e := Host.reduce_andi_all _ _ _ _ _ e2 (ix2 g b)
    pointwise at e
    exact scale_ok e

end Cert.Alg
-- ==== Proof.Entry.lean ====
module
public import proofs.«01_k».proof.Proof.Sums
public import proofs.«01_k».proof.Proof.PreI
/-!
# One entry of the product, in the kernel's order and in the reference's

The kernel scales each group's sum, the reference scales each code: the same number, because the scales are finite and
not negative.
-/
@[expose] public section
noncomputable section
namespace Cert.Alg
open Idealize.ShloMosaic Idealize.SL.Sem Cert.Mm
open scoped BigOperators

/-- One entry, both ways: the groups' sums scaled, or the codes scaled. -/
theorem entry_eq (X : FVec Ideal ⟨2, ![8192, 4608]⟩ .fp8e4m3) (SX : FVec Ideal ⟨2, ![32, 8192]⟩ .f32)
    (W : FVec Ideal ⟨2, ![4608, 36864]⟩ .fp8e4m3) (SW : FVec Ideal ⟨2, ![18, 144]⟩ .f32)
    (hX : ∀ (g : Fin 18) (T : Fin 8192), 0 ≤ (SX (ix2 (⟨g.val, by omega⟩ : Fin 32) T) : EReal) ∧ (SX (ix2 (⟨g.val, by omega⟩ : Fin 32) T) : EReal) ≠ ⊤)
    (hW : ∀ (g : Fin 18) (b : Fin 144), 0 ≤ (SW (ix2 g b) : EReal) ∧ (SW (ix2 g b) : EReal) ≠ ⊤)
    (T : Fin 8192) (N : Fin 36864) :
    (∑ g : Fin 18, (∑ k : Fin 256, (W (Mxu.ix (m := 4608) (n := 36864) ⟨256 * g.val + k.val, by omega⟩ N) : EReal) *
        X (Mxu.ix (m := 8192) (n := 4608) T ⟨256 * g.val + k.val, by omega⟩)) *
      ((SX (Mxu.ix (m := 32) (n := 8192) ⟨g.val, by omega⟩ T) : EReal) * SW (Mxu.ix (m := 18) (n := 144) g ⟨N.val / 256, by omega⟩))) =
    ∑ k : Fin 4608, ((X (ix2 T k) : EReal) * SX (ix2 (⟨k.val / 256, by omega⟩ : Fin 32) T)) *
      ((W (ix2 k N) : EReal) * SW (ix2 (⟨k.val / 256, by omega⟩ : Fin 18) (⟨N.val / 256, by omega⟩ : Fin 144))) := by
  have key := groups_eq (fun j => X (ix2 T (⟨j % 4608, Nat.mod_lt _ (by decide)⟩ : Fin 4608)))
    (fun j => W (ix2 (⟨j % 4608, Nat.mod_lt _ (by decide)⟩ : Fin 4608) N))
    (fun g => SX (ix2 (⟨g % 18, lt_trans (Nat.mod_lt _ (by decide)) (by decide)⟩ : Fin 32) T))
    (fun g => SW (ix2 (⟨g % 18, Nat.mod_lt _ (by decide)⟩ : Fin 18) (⟨N.val / 256, by omega⟩ : Fin 144)))
    (fun g => hX ⟨g % 18, Nat.mod_lt _ (by decide)⟩ T) (fun g => hW ⟨g % 18, Nat.mod_lt _ (by decide)⟩ _)
  refine Eq.trans (Finset.sum_congr rfl fun g _ => ?_) (key.trans (Finset.sum_congr rfl fun k _ => ?_))
  · have hg : g.val < 18 := g.isLt
    refine congrArg₂ (· * ·) (Finset.sum_congr rfl fun k _ => congrArg₂ (· * ·) ?_ ?_) (congrArg₂ (· * ·) ?_ ?_)
    · have hk : k.val < 256 := k.isLt
      exact congrArg W (idx_ext (by show 256 * g.val + k.val = (256 * g.val + k.val) % 4608; omega) rfl)
    · have hk : k.val < 256 := k.isLt
      exact congrArg X (idx_ext rfl (by show 256 * g.val + k.val = (256 * g.val + k.val) % 4608; omega))
    · exact congrArg SX (idx_ext (by show g.val = g.val % 18; omega) rfl)
    · exact congrArg SW (idx_ext (by show g.val = g.val % 18; omega) rfl)
  · have hk : k.val < 4608 := k.isLt
    refine congrArg₂ (· * ·) (congrArg₂ (· * ·) ?_ ?_) (congrArg₂ (· * ·) ?_ ?_)
    · exact congrArg X (idx_ext rfl (by show k.val % 4608 = k.val; omega))
    · exact congrArg SX (idx_ext (by show k.val / 256 % 18 = k.val / 256; omega) rfl)
    · exact congrArg W (idx_ext (by show k.val % 4608 = k.val; omega) rfl)
    · exact congrArg SW (idx_ext (by show k.val / 256 % 18 = k.val / 256; omega) rfl)

end Cert.Alg
-- ==== Proof.Alg.lean ====
module
public import proofs.«01_k».proof.Defs
public import proofs.«01_k».proof.Proof.ValI
public import proofs.«01_k».proof.Proof.RefI
public import proofs.«01_k».proof.Proof.Entry
public import proofs.«01_k».proof.Proof.Gen.Pre_scales_ok
/-!
# The kernel and the reference agree over the extended reals

From equal arguments both run and leave equal results.
-/
@[expose] public section
noncomputable section
namespace Cert.Alg
open Idealize.ShloMosaic Idealize.SL.Sem Cert.Mm
open scoped BigOperators

/-- From the same arguments, the same result. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_scales_ok.fn (F := Ideal) (Cert.KernelIdeal.Hand.aX m c) (Cert.KernelIdeal.Hand.aSX m c)
      (Cert.KernelIdeal.Hand.aW m c) (Cert.KernelIdeal.Hand.aSW m c) = fun _ => 1#1)
    (e0 : Cert.ReferenceIdeal.Hand.aX m' c = Cert.KernelIdeal.Hand.aX m c)
    (e1 : Cert.ReferenceIdeal.Hand.aSX m' c = Cert.KernelIdeal.Hand.aSX m c)
    (e2 : Cert.ReferenceIdeal.Hand.aW m' c = Cert.KernelIdeal.Hand.aW m c)
    (e3 : Cert.ReferenceIdeal.Hand.aSW m' c = Cert.KernelIdeal.Hand.aSW m c) :
    Cert.ReferenceIdeal.Hand.out m' c = Cert.KernelIdeal.Hand.out m c := by
  obtain ⟨hX, hW⟩ := scales_of_pre _ _ _ _ hpre
  funext j
  obtain ⟨T, N, rfl⟩ : ∃ (T : Fin 8192) (N : Fin 36864), j = ix2 T N := ⟨j 0, j 1, eq_ix2 j⟩
  rw [Cert.ReferenceIdeal.Hand.out_apply, e0, e1, e2, e3]
  exact (entry_eq _ _ _ _ hX hW T N).symm

theorem algebraic : Cert.algebraic_KernelIdeal_ReferenceIdeal_pre_scales_ok := by
  intro m g m' g' hpre hagree
  refine ⟨fun c => Cert.KernelIdeal.Hand.out m c, Cert.KernelIdeal.Hand.run_out m g, ?_⟩
  refine (θ_run _ _ _).mono (fun _ h c => ⟨(h c).1.trans ?_, (h c).2⟩) (Cert.ReferenceIdeal.Hand.run_out m' g')
  obtain ⟨a0, a1, a2, a3⟩ := hagree c
  exact out_eq m m' c (hpre c) a0 a1 a2 a3

end Cert.Alg
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_scales_ok
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run
public import proofs.«01_k».proof.Proof.RunI
public import proofs.«01_k».proof.Proof.Alg
public import Idealize.ShloMosaic.Adequacy
public import Idealize.ShloMosaic.Init

@[expose] public section

noncomputable section

namespace Cert.Proof

open Idealize.ShloMosaic Idealize.SL.Sem Cert.Kernel

theorem frame_Kernel : Cert.quiescent_Kernel := fun m ρ _ => Cert.Kernel.Hand.frame m ρ
theorem frame_KernelIdeal : Cert.quiescent_KernelIdeal := fun m ρ _ => Cert.KernelIdeal.Hand.frame m ρ
theorem frame_ReferenceIdeal : Cert.quiescent_ReferenceIdeal := fun m ρ _ => Cert.ReferenceIdeal.Gen.frame m ρ
theorem preserves : Cert.preserves_Kernel_KernelIdeal := trivial

theorem claim : Cert.Claim := ⟨Cert.Kernel.Gen.facts, Cert.KernelIdeal.Gen.facts, Cert.ReferenceIdeal.Gen.facts, Cert.Pre_scales_ok.Gen.facts,
  frame_Kernel, frame_KernelIdeal, fun m ρ _ => Cert.KernelIdeal.Hand.frame m ρ, frame_ReferenceIdeal,
  fun m ρ _ => Cert.ReferenceIdeal.Gen.frame m ρ, preserves, Cert.Alg.algebraic⟩

end Cert.Proof

end
